-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![32768, 1024]⟩ ⟨2, ![65536, 1024]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x1024 : Shape := ⟨2, ![32768, 1024]⟩
abbrev S3x1024x1024 : Shape := ⟨3, ![3, 1024, 1024]⟩
abbrev S2x1024x1024 : Shape := ⟨3, ![2, 1024, 1024]⟩
abbrev S8x1024x1024 : Shape := ⟨3, ![8, 1024, 1024]⟩
abbrev S3 : Shape := ⟨1, ![3]⟩
abbrev S2 : Shape := ⟨1, ![2]⟩
abbrev S8 : Shape := ⟨1, ![8]⟩
abbrev S16 : Shape := ⟨1, ![16]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩

abbrev nBuf : Space → Nat
  | .hbm => 2
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .local _ .vmem, ⟨0, _⟩ => ⟨S3x1024x1024, .f32⟩
  | .local _ .vmem, ⟨1, _⟩ => ⟨S3x1024x1024, .f32⟩
  | .local _ .vmem, ⟨2, _⟩ => ⟨S2x1024x1024, .bf16⟩
  | .local _ .vmem, ⟨3, _⟩ => ⟨S2x1024x1024, .bf16⟩
  | .local _ .vmem, ⟨4, _⟩ => ⟨S8x1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => true
  | ⟨1, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 2 36 bufScoped semScoped dmaSemScoped tileCredit tileCredit_eq_zero tileCredit_pos).withBarriers [(0, 1)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 1

abbrev nD : Nat := 16
abbrev τ : Topo := Topo.v7x

variable {F : FTy → Type} [FloatOps F]

abbrev grid0 : Pipeline.Grid := .none

def k0_dev1 (d0 : Dev nD) : Nat :=
  let c0_i32_13 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_7 v2
  let c8_i32_12 : BitVec 32 := 8#32
  let v26 : BitVec 32 := Scalar.muli v20 c8_i32_12
  let v27 : BitVec 32 := Scalar.addi c0_i32_13 v26
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_14 : BitVec 32 := 4#32
  let v28 : BitVec 32 := Scalar.muli v5 c4_i32_14
  let v29 : BitVec 32 := Scalar.addi v27 v28
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v30 : BitVec 32 := Scalar.muli v8 c1_i32_15
  let v31 : BitVec 32 := Scalar.addi v29 v30
  v31.toNat
def k0_dev2 (d0 : Dev nD) : Nat :=
  let c0_i32_18 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_17 : BitVec 32 := 8#32
  let v32 : BitVec 32 := Scalar.muli v2 c8_i32_17
  let v33 : BitVec 32 := Scalar.addi c0_i32_18 v32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_19 : BitVec 32 := 4#32
  let v34 : BitVec 32 := Scalar.muli v5 c4_i32_19
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v21 : BitVec 32 := Scalar.xori v8 c1_i32_8
  let c1_i32_20 : BitVec 32 := 1#32
  let v36 : BitVec 32 := Scalar.muli v21 c1_i32_20
  let v37 : BitVec 32 := Scalar.addi v35 v36
  v37.toNat
def k0_off1 (d0 : Dev nD) (c0_i32_22 : BitVec 32) : Fin 2 → Nat :=
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.xori v2 v18
  let v23 : BitVec 32 := Scalar.subi c1_i32_9 v19
  let c16384_i32_10 : BitVec 32 := 16384#32
  let v24 : BitVec 32 := Scalar.muli v23 c16384_i32_10
  let v38 : BitVec 32 := Scalar.addi v24 c0_i32_22
  let c0_i32_27 : BitVec 32 := 0#32
  ![v38.toNat, 0]
def k0_off2 (d0 : Dev nD) (c0_i32_28 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.xori v2 v18
  let c16384_i32 : BitVec 32 := 16384#32
  let v22 : BitVec 32 := Scalar.muli v19 c16384_i32
  let v44 : BitVec 32 := Scalar.addi v22 c0_i32_28
  let c0_i32_33 : BitVec 32 := 0#32
  ![v44.toNat, 0]
def k0_dev3 (d0 : Dev nD) : Nat :=
  let c0_i32_72 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_7 v2
  let c8_i32_71 : BitVec 32 := 8#32
  let v86 : BitVec 32 := Scalar.muli v20 c8_i32_71
  let v87 : BitVec 32 := Scalar.addi c0_i32_72 v86
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_73 : BitVec 32 := 4#32
  let v88 : BitVec 32 := Scalar.muli v5 c4_i32_73
  let v89 : BitVec 32 := Scalar.addi v87 v88
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v90 : BitVec 32 := Scalar.muli v8 c1_i32_74
  let v91 : BitVec 32 := Scalar.addi v89 v90
  v91.toNat
def k0_dev4 (d0 : Dev nD) : Nat :=
  let c0_i32_100 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_7 v2
  let c8_i32_99 : BitVec 32 := 8#32
  let v118 : BitVec 32 := Scalar.muli v20 c8_i32_99
  let v119 : BitVec 32 := Scalar.addi c0_i32_100 v118
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_101 : BitVec 32 := 4#32
  let v120 : BitVec 32 := Scalar.muli v5 c4_i32_101
  let v121 : BitVec 32 := Scalar.addi v119 v120
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_102 : BitVec 32 := 1#32
  let v122 : BitVec 32 := Scalar.muli v8 c1_i32_102
  let v123 : BitVec 32 := Scalar.addi v121 v122
  v123.toNat
def k0_dev5 (d0 : Dev nD) : Nat :=
  let c0_i32_141 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_7 v2
  let c8_i32_140 : BitVec 32 := 8#32
  let v166 : BitVec 32 := Scalar.muli v20 c8_i32_140
  let v167 : BitVec 32 := Scalar.addi c0_i32_141 v166
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_142 : BitVec 32 := 4#32
  let v168 : BitVec 32 := Scalar.muli v5 c4_i32_142
  let v169 : BitVec 32 := Scalar.addi v167 v168
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_143 : BitVec 32 := 1#32
  let v170 : BitVec 32 := Scalar.muli v8 c1_i32_143
  let v171 : BitVec 32 := Scalar.addi v169 v170
  v171.toNat
def k0_dev6 (d0 : Dev nD) : Nat :=
  let c0_i32_149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_148 : BitVec 32 := 8#32
  let v173 : BitVec 32 := Scalar.muli v2 c8_i32_148
  let v174 : BitVec 32 := Scalar.addi c0_i32_149 v173
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_150 : BitVec 32 := 4#32
  let v175 : BitVec 32 := Scalar.muli v5 c4_i32_150
  let v176 : BitVec 32 := Scalar.addi v174 v175
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v21 : BitVec 32 := Scalar.xori v8 c1_i32_8
  let c1_i32_151 : BitVec 32 := 1#32
  let v177 : BitVec 32 := Scalar.muli v21 c1_i32_151
  let v178 : BitVec 32 := Scalar.addi v176 v177
  v178.toNat
def k0_dev7 (d0 : Dev nD) : Nat :=
  let c0_i32_192 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_7 v2
  let c8_i32_191 : BitVec 32 := 8#32
  let v216 : BitVec 32 := Scalar.muli v20 c8_i32_191
  let v217 : BitVec 32 := Scalar.addi c0_i32_192 v216
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_193 : BitVec 32 := 4#32
  let v218 : BitVec 32 := Scalar.muli v5 c4_i32_193
  let v219 : BitVec 32 := Scalar.addi v217 v218
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_194 : BitVec 32 := 1#32
  let v220 : BitVec 32 := Scalar.muli v8 c1_i32_194
  let v221 : BitVec 32 := Scalar.addi v219 v220
  v221.toNat
def k0_dev8 (d0 : Dev nD) : Nat :=
  let c0_i32_233 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_7 v2
  let c8_i32_232 : BitVec 32 := 8#32
  let v264 : BitVec 32 := Scalar.muli v20 c8_i32_232
  let v265 : BitVec 32 := Scalar.addi c0_i32_233 v264
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_234 : BitVec 32 := 4#32
  let v266 : BitVec 32 := Scalar.muli v5 c4_i32_234
  let v267 : BitVec 32 := Scalar.addi v265 v266
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_235 : BitVec 32 := 1#32
  let v268 : BitVec 32 := Scalar.muli v8 c1_i32_235
  let v269 : BitVec 32 := Scalar.addi v267 v268
  v269.toNat
def k0_dev9 (d0 : Dev nD) : Nat :=
  let c0_i32_241 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_240 : BitVec 32 := 8#32
  let v271 : BitVec 32 := Scalar.muli v2 c8_i32_240
  let v272 : BitVec 32 := Scalar.addi c0_i32_241 v271
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_242 : BitVec 32 := 4#32
  let v273 : BitVec 32 := Scalar.muli v5 c4_i32_242
  let v274 : BitVec 32 := Scalar.addi v272 v273
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v21 : BitVec 32 := Scalar.xori v8 c1_i32_8
  let c1_i32_243 : BitVec 32 := 1#32
  let v275 : BitVec 32 := Scalar.muli v21 c1_i32_243
  let v276 : BitVec 32 := Scalar.addi v274 v275
  v276.toNat
def k0_dev10 (d0 : Dev nD) : Nat :=
  let c0_i32_295 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_7 v2
  let c8_i32_294 : BitVec 32 := 8#32
  let v326 : BitVec 32 := Scalar.muli v20 c8_i32_294
  let v327 : BitVec 32 := Scalar.addi c0_i32_295 v326
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_296 : BitVec 32 := 4#32
  let v328 : BitVec 32 := Scalar.muli v5 c4_i32_296
  let v329 : BitVec 32 := Scalar.addi v327 v328
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_297 : BitVec 32 := 1#32
  let v330 : BitVec 32 := Scalar.muli v8 c1_i32_297
  let v331 : BitVec 32 := Scalar.addi v329 v330
  v331.toNat
def k0_dev11 (d0 : Dev nD) : Nat :=
  let c0_i32_350 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_7 v2
  let c8_i32_349 : BitVec 32 := 8#32
  let v386 : BitVec 32 := Scalar.muli v20 c8_i32_349
  let v387 : BitVec 32 := Scalar.addi c0_i32_350 v386
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_351 : BitVec 32 := 4#32
  let v388 : BitVec 32 := Scalar.muli v5 c4_i32_351
  let v389 : BitVec 32 := Scalar.addi v387 v388
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_352 : BitVec 32 := 1#32
  let v390 : BitVec 32 := Scalar.muli v8 c1_i32_352
  let v391 : BitVec 32 := Scalar.addi v389 v390
  v391.toNat
def k0_dev12 (d0 : Dev nD) : Nat :=
  let c0_i32_358 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_357 : BitVec 32 := 8#32
  let v393 : BitVec 32 := Scalar.muli v2 c8_i32_357
  let v394 : BitVec 32 := Scalar.addi c0_i32_358 v393
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_359 : BitVec 32 := 4#32
  let v395 : BitVec 32 := Scalar.muli v5 c4_i32_359
  let v396 : BitVec 32 := Scalar.addi v394 v395
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v21 : BitVec 32 := Scalar.xori v8 c1_i32_8
  let c1_i32_360 : BitVec 32 := 1#32
  let v397 : BitVec 32 := Scalar.muli v21 c1_i32_360
  let v398 : BitVec 32 := Scalar.addi v396 v397
  v398.toNat
def k0_dev13 (d0 : Dev nD) : Nat :=
  let c0_i32_413 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_7 v2
  let c8_i32_412 : BitVec 32 := 8#32
  let v448 : BitVec 32 := Scalar.muli v20 c8_i32_412
  let v449 : BitVec 32 := Scalar.addi c0_i32_413 v448
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_414 : BitVec 32 := 4#32
  let v450 : BitVec 32 := Scalar.muli v5 c4_i32_414
  let v451 : BitVec 32 := Scalar.addi v449 v450
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_415 : BitVec 32 := 1#32
  let v452 : BitVec 32 := Scalar.muli v8 c1_i32_415
  let v453 : BitVec 32 := Scalar.addi v451 v452
  v453.toNat
def k0_dev14 (d0 : Dev nD) : Nat :=
  let c0_i32_467 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_7 v2
  let c8_i32_466 : BitVec 32 := 8#32
  let v508 : BitVec 32 := Scalar.muli v20 c8_i32_466
  let v509 : BitVec 32 := Scalar.addi c0_i32_467 v508
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_468 : BitVec 32 := 4#32
  let v510 : BitVec 32 := Scalar.muli v5 c4_i32_468
  let v511 : BitVec 32 := Scalar.addi v509 v510
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_469 : BitVec 32 := 1#32
  let v512 : BitVec 32 := Scalar.muli v8 c1_i32_469
  let v513 : BitVec 32 := Scalar.addi v511 v512
  v513.toNat
def k0_dev15 (d0 : Dev nD) : Nat :=
  let c0_i32_475 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_474 : BitVec 32 := 8#32
  let v515 : BitVec 32 := Scalar.muli v2 c8_i32_474
  let v516 : BitVec 32 := Scalar.addi c0_i32_475 v515
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_476 : BitVec 32 := 4#32
  let v517 : BitVec 32 := Scalar.muli v5 c4_i32_476
  let v518 : BitVec 32 := Scalar.addi v516 v517
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v21 : BitVec 32 := Scalar.xori v8 c1_i32_8
  let c1_i32_477 : BitVec 32 := 1#32
  let v519 : BitVec 32 := Scalar.muli v21 c1_i32_477
  let v520 : BitVec 32 := Scalar.addi v518 v519
  v520.toNat
def k0_dev16 (d0 : Dev nD) : Nat :=
  let c0_i32_529 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_7 v2
  let c8_i32_528 : BitVec 32 := 8#32
  let v570 : BitVec 32 := Scalar.muli v20 c8_i32_528
  let v571 : BitVec 32 := Scalar.addi c0_i32_529 v570
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_530 : BitVec 32 := 4#32
  let v572 : BitVec 32 := Scalar.muli v5 c4_i32_530
  let v573 : BitVec 32 := Scalar.addi v571 v572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_531 : BitVec 32 := 1#32
  let v574 : BitVec 32 := Scalar.muli v8 c1_i32_531
  let v575 : BitVec 32 := Scalar.addi v573 v574
  v575.toNat
def k0_dev17 (d0 : Dev nD) : Nat :=
  let c0_i32_583 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_7 v2
  let c8_i32_582 : BitVec 32 := 8#32
  let v630 : BitVec 32 := Scalar.muli v20 c8_i32_582
  let v631 : BitVec 32 := Scalar.addi c0_i32_583 v630
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_584 : BitVec 32 := 4#32
  let v632 : BitVec 32 := Scalar.muli v5 c4_i32_584
  let v633 : BitVec 32 := Scalar.addi v631 v632
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_585 : BitVec 32 := 1#32
  let v634 : BitVec 32 := Scalar.muli v8 c1_i32_585
  let v635 : BitVec 32 := Scalar.addi v633 v634
  v635.toNat
def k0_dev18 (d0 : Dev nD) : Nat :=
  let c0_i32_591 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_590 : BitVec 32 := 8#32
  let v637 : BitVec 32 := Scalar.muli v2 c8_i32_590
  let v638 : BitVec 32 := Scalar.addi c0_i32_591 v637
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_592 : BitVec 32 := 4#32
  let v639 : BitVec 32 := Scalar.muli v5 c4_i32_592
  let v640 : BitVec 32 := Scalar.addi v638 v639
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v21 : BitVec 32 := Scalar.xori v8 c1_i32_8
  let c1_i32_593 : BitVec 32 := 1#32
  let v641 : BitVec 32 := Scalar.muli v21 c1_i32_593
  let v642 : BitVec 32 := Scalar.addi v640 v641
  v642.toNat
def k0_dev19 (d0 : Dev nD) : Nat :=
  let c0_i32_645 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_7 v2
  let c8_i32_644 : BitVec 32 := 8#32
  let v692 : BitVec 32 := Scalar.muli v20 c8_i32_644
  let v693 : BitVec 32 := Scalar.addi c0_i32_645 v692
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_646 : BitVec 32 := 4#32
  let v694 : BitVec 32 := Scalar.muli v5 c4_i32_646
  let v695 : BitVec 32 := Scalar.addi v693 v694
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_647 : BitVec 32 := 1#32
  let v696 : BitVec 32 := Scalar.muli v8 c1_i32_647
  let v697 : BitVec 32 := Scalar.addi v695 v696
  v697.toNat
def k0_dev20 (d0 : Dev nD) : Nat :=
  let c0_i32_699 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_7 v2
  let c8_i32_698 : BitVec 32 := 8#32
  let v752 : BitVec 32 := Scalar.muli v20 c8_i32_698
  let v753 : BitVec 32 := Scalar.addi c0_i32_699 v752
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_700 : BitVec 32 := 4#32
  let v754 : BitVec 32 := Scalar.muli v5 c4_i32_700
  let v755 : BitVec 32 := Scalar.addi v753 v754
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_701 : BitVec 32 := 1#32
  let v756 : BitVec 32 := Scalar.muli v8 c1_i32_701
  let v757 : BitVec 32 := Scalar.addi v755 v756
  v757.toNat
def k0_dev21 (d0 : Dev nD) : Nat :=
  let c0_i32_707 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_706 : BitVec 32 := 8#32
  let v759 : BitVec 32 := Scalar.muli v2 c8_i32_706
  let v760 : BitVec 32 := Scalar.addi c0_i32_707 v759
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_708 : BitVec 32 := 4#32
  let v761 : BitVec 32 := Scalar.muli v5 c4_i32_708
  let v762 : BitVec 32 := Scalar.addi v760 v761
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v21 : BitVec 32 := Scalar.xori v8 c1_i32_8
  let c1_i32_709 : BitVec 32 := 1#32
  let v763 : BitVec 32 := Scalar.muli v21 c1_i32_709
  let v764 : BitVec 32 := Scalar.addi v762 v763
  v764.toNat
def k0_dev22 (d0 : Dev nD) : Nat :=
  let c0_i32_761 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_7 v2
  let c8_i32_760 : BitVec 32 := 8#32
  let v814 : BitVec 32 := Scalar.muli v20 c8_i32_760
  let v815 : BitVec 32 := Scalar.addi c0_i32_761 v814
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_762 : BitVec 32 := 4#32
  let v816 : BitVec 32 := Scalar.muli v5 c4_i32_762
  let v817 : BitVec 32 := Scalar.addi v815 v816
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_763 : BitVec 32 := 1#32
  let v818 : BitVec 32 := Scalar.muli v8 c1_i32_763
  let v819 : BitVec 32 := Scalar.addi v817 v818
  v819.toNat
def k0_dev23 (d0 : Dev nD) : Nat :=
  let c0_i32_815 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_7 v2
  let c8_i32_814 : BitVec 32 := 8#32
  let v874 : BitVec 32 := Scalar.muli v20 c8_i32_814
  let v875 : BitVec 32 := Scalar.addi c0_i32_815 v874
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_816 : BitVec 32 := 4#32
  let v876 : BitVec 32 := Scalar.muli v5 c4_i32_816
  let v877 : BitVec 32 := Scalar.addi v875 v876
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_817 : BitVec 32 := 1#32
  let v878 : BitVec 32 := Scalar.muli v8 c1_i32_817
  let v879 : BitVec 32 := Scalar.addi v877 v878
  v879.toNat
def k0_dev24 (d0 : Dev nD) : Nat :=
  let c0_i32_823 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_822 : BitVec 32 := 8#32
  let v881 : BitVec 32 := Scalar.muli v2 c8_i32_822
  let v882 : BitVec 32 := Scalar.addi c0_i32_823 v881
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_824 : BitVec 32 := 4#32
  let v883 : BitVec 32 := Scalar.muli v5 c4_i32_824
  let v884 : BitVec 32 := Scalar.addi v882 v883
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v21 : BitVec 32 := Scalar.xori v8 c1_i32_8
  let c1_i32_825 : BitVec 32 := 1#32
  let v885 : BitVec 32 := Scalar.muli v21 c1_i32_825
  let v886 : BitVec 32 := Scalar.addi v884 v885
  v886.toNat
def k0_dev25 (d0 : Dev nD) : Nat :=
  let c0_i32_880 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_7 v2
  let c8_i32_879 : BitVec 32 := 8#32
  let v936 : BitVec 32 := Scalar.muli v20 c8_i32_879
  let v937 : BitVec 32 := Scalar.addi c0_i32_880 v936
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_881 : BitVec 32 := 4#32
  let v938 : BitVec 32 := Scalar.muli v5 c4_i32_881
  let v939 : BitVec 32 := Scalar.addi v937 v938
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_882 : BitVec 32 := 1#32
  let v940 : BitVec 32 := Scalar.muli v8 c1_i32_882
  let v941 : BitVec 32 := Scalar.addi v939 v940
  v941.toNat
def k0_dev26 (d0 : Dev nD) : Nat :=
  let c0_i32_934 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_7 v2
  let c8_i32_933 : BitVec 32 := 8#32
  let v996 : BitVec 32 := Scalar.muli v20 c8_i32_933
  let v997 : BitVec 32 := Scalar.addi c0_i32_934 v996
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_935 : BitVec 32 := 4#32
  let v998 : BitVec 32 := Scalar.muli v5 c4_i32_935
  let v999 : BitVec 32 := Scalar.addi v997 v998
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_936 : BitVec 32 := 1#32
  let v1000 : BitVec 32 := Scalar.muli v8 c1_i32_936
  let v1001 : BitVec 32 := Scalar.addi v999 v1000
  v1001.toNat
def k0_dev27 (d0 : Dev nD) : Nat :=
  let c0_i32_942 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_941 : BitVec 32 := 8#32
  let v1003 : BitVec 32 := Scalar.muli v2 c8_i32_941
  let v1004 : BitVec 32 := Scalar.addi c0_i32_942 v1003
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_943 : BitVec 32 := 4#32
  let v1005 : BitVec 32 := Scalar.muli v5 c4_i32_943
  let v1006 : BitVec 32 := Scalar.addi v1004 v1005
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v21 : BitVec 32 := Scalar.xori v8 c1_i32_8
  let c1_i32_944 : BitVec 32 := 1#32
  let v1007 : BitVec 32 := Scalar.muli v21 c1_i32_944
  let v1008 : BitVec 32 := Scalar.addi v1006 v1007
  v1008.toNat
def k0_dev28 (d0 : Dev nD) : Nat :=
  let c0_i32_999 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_7 v2
  let c8_i32_998 : BitVec 32 := 8#32
  let v1058 : BitVec 32 := Scalar.muli v20 c8_i32_998
  let v1059 : BitVec 32 := Scalar.addi c0_i32_999 v1058
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1000 : BitVec 32 := 4#32
  let v1060 : BitVec 32 := Scalar.muli v5 c4_i32_1000
  let v1061 : BitVec 32 := Scalar.addi v1059 v1060
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1001 : BitVec 32 := 1#32
  let v1062 : BitVec 32 := Scalar.muli v8 c1_i32_1001
  let v1063 : BitVec 32 := Scalar.addi v1061 v1062
  v1063.toNat
def k0_dev29 (d0 : Dev nD) : Nat :=
  let c0_i32_1057 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1056 : BitVec 32 := 8#32
  let v1119 : BitVec 32 := Scalar.muli v2 c8_i32_1056
  let v1120 : BitVec 32 := Scalar.addi c0_i32_1057 v1119
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1058 : BitVec 32 := 4#32
  let v1121 : BitVec 32 := Scalar.muli v5 c4_i32_1058
  let v1122 : BitVec 32 := Scalar.addi v1120 v1121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v21 : BitVec 32 := Scalar.xori v8 c1_i32_8
  let c1_i32_1059 : BitVec 32 := 1#32
  let v1123 : BitVec 32 := Scalar.muli v21 c1_i32_1059
  let v1124 : BitVec 32 := Scalar.addi v1122 v1123
  v1124.toNat
def k0_dev30 (d0 : Dev nD) : Nat :=
  let c0_i32_1114 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_7 v2
  let c8_i32_1113 : BitVec 32 := 8#32
  let v1174 : BitVec 32 := Scalar.muli v20 c8_i32_1113
  let v1175 : BitVec 32 := Scalar.addi c0_i32_1114 v1174
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1115 : BitVec 32 := 4#32
  let v1176 : BitVec 32 := Scalar.muli v5 c4_i32_1115
  let v1177 : BitVec 32 := Scalar.addi v1175 v1176
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1116 : BitVec 32 := 1#32
  let v1178 : BitVec 32 := Scalar.muli v8 c1_i32_1116
  let v1179 : BitVec 32 := Scalar.addi v1177 v1178
  v1179.toNat
def k0_dev31 (d0 : Dev nD) : Nat :=
  let c0_i32_1171 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1170 : BitVec 32 := 8#32
  let v1235 : BitVec 32 := Scalar.muli v2 c8_i32_1170
  let v1236 : BitVec 32 := Scalar.addi c0_i32_1171 v1235
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1172 : BitVec 32 := 4#32
  let v1237 : BitVec 32 := Scalar.muli v5 c4_i32_1172
  let v1238 : BitVec 32 := Scalar.addi v1236 v1237
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v21 : BitVec 32 := Scalar.xori v8 c1_i32_8
  let c1_i32_1173 : BitVec 32 := 1#32
  let v1239 : BitVec 32 := Scalar.muli v21 c1_i32_1173
  let v1240 : BitVec 32 := Scalar.addi v1238 v1239
  v1240.toNat
def k0_dev32 (d0 : Dev nD) : Nat :=
  let c0_i32_1228 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_7 v2
  let c8_i32_1227 : BitVec 32 := 8#32
  let v1290 : BitVec 32 := Scalar.muli v20 c8_i32_1227
  let v1291 : BitVec 32 := Scalar.addi c0_i32_1228 v1290
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1229 : BitVec 32 := 4#32
  let v1292 : BitVec 32 := Scalar.muli v5 c4_i32_1229
  let v1293 : BitVec 32 := Scalar.addi v1291 v1292
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1230 : BitVec 32 := 1#32
  let v1294 : BitVec 32 := Scalar.muli v8 c1_i32_1230
  let v1295 : BitVec 32 := Scalar.addi v1293 v1294
  v1295.toNat
def k0_dev33 (d0 : Dev nD) : Nat :=
  let c0_i32_1285 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1284 : BitVec 32 := 8#32
  let v1351 : BitVec 32 := Scalar.muli v2 c8_i32_1284
  let v1352 : BitVec 32 := Scalar.addi c0_i32_1285 v1351
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1286 : BitVec 32 := 4#32
  let v1353 : BitVec 32 := Scalar.muli v5 c4_i32_1286
  let v1354 : BitVec 32 := Scalar.addi v1352 v1353
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v21 : BitVec 32 := Scalar.xori v8 c1_i32_8
  let c1_i32_1287 : BitVec 32 := 1#32
  let v1355 : BitVec 32 := Scalar.muli v21 c1_i32_1287
  let v1356 : BitVec 32 := Scalar.addi v1354 v1355
  v1356.toNat
def k0_dev34 (d0 : Dev nD) : Nat :=
  let c0_i32_1342 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_7 v2
  let c8_i32_1341 : BitVec 32 := 8#32
  let v1406 : BitVec 32 := Scalar.muli v20 c8_i32_1341
  let v1407 : BitVec 32 := Scalar.addi c0_i32_1342 v1406
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1343 : BitVec 32 := 4#32
  let v1408 : BitVec 32 := Scalar.muli v5 c4_i32_1343
  let v1409 : BitVec 32 := Scalar.addi v1407 v1408
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1344 : BitVec 32 := 1#32
  let v1410 : BitVec 32 := Scalar.muli v8 c1_i32_1344
  let v1411 : BitVec 32 := Scalar.addi v1409 v1410
  v1411.toNat
def k0_dev35 (d0 : Dev nD) : Nat :=
  let c0_i32_1399 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1398 : BitVec 32 := 8#32
  let v1467 : BitVec 32 := Scalar.muli v2 c8_i32_1398
  let v1468 : BitVec 32 := Scalar.addi c0_i32_1399 v1467
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1400 : BitVec 32 := 4#32
  let v1469 : BitVec 32 := Scalar.muli v5 c4_i32_1400
  let v1470 : BitVec 32 := Scalar.addi v1468 v1469
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v21 : BitVec 32 := Scalar.xori v8 c1_i32_8
  let c1_i32_1401 : BitVec 32 := 1#32
  let v1471 : BitVec 32 := Scalar.muli v21 c1_i32_1401
  let v1472 : BitVec 32 := Scalar.addi v1470 v1471
  v1472.toNat
def k0_dev36 (d0 : Dev nD) : Nat :=
  let c0_i32_1456 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_7 v2
  let c8_i32_1455 : BitVec 32 := 8#32
  let v1522 : BitVec 32 := Scalar.muli v20 c8_i32_1455
  let v1523 : BitVec 32 := Scalar.addi c0_i32_1456 v1522
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1457 : BitVec 32 := 4#32
  let v1524 : BitVec 32 := Scalar.muli v5 c4_i32_1457
  let v1525 : BitVec 32 := Scalar.addi v1523 v1524
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1458 : BitVec 32 := 1#32
  let v1526 : BitVec 32 := Scalar.muli v8 c1_i32_1458
  let v1527 : BitVec 32 := Scalar.addi v1525 v1526
  v1527.toNat
def k0_dev37 (d0 : Dev nD) : Nat :=
  let c0_i32_1508 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1507 : BitVec 32 := 8#32
  let v1577 : BitVec 32 := Scalar.muli v2 c8_i32_1507
  let v1578 : BitVec 32 := Scalar.addi c0_i32_1508 v1577
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1509 : BitVec 32 := 4#32
  let v1579 : BitVec 32 := Scalar.muli v5 c4_i32_1509
  let v1580 : BitVec 32 := Scalar.addi v1578 v1579
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v21 : BitVec 32 := Scalar.xori v8 c1_i32_8
  let c1_i32_1510 : BitVec 32 := 1#32
  let v1581 : BitVec 32 := Scalar.muli v21 c1_i32_1510
  let v1582 : BitVec 32 := Scalar.addi v1580 v1581
  v1582.toNat
def k0_dev38 (d0 : Dev nD) : Nat :=
  let c0_i32_1565 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_7 v2
  let c8_i32_1564 : BitVec 32 := 8#32
  let v1632 : BitVec 32 := Scalar.muli v20 c8_i32_1564
  let v1633 : BitVec 32 := Scalar.addi c0_i32_1565 v1632
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1566 : BitVec 32 := 4#32
  let v1634 : BitVec 32 := Scalar.muli v5 c4_i32_1566
  let v1635 : BitVec 32 := Scalar.addi v1633 v1634
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1567 : BitVec 32 := 1#32
  let v1636 : BitVec 32 := Scalar.muli v8 c1_i32_1567
  let v1637 : BitVec 32 := Scalar.addi v1635 v1636
  v1637.toNat
def k0_dev39 (d0 : Dev nD) : Nat :=
  let c0_i32_1617 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1616 : BitVec 32 := 8#32
  let v1687 : BitVec 32 := Scalar.muli v2 c8_i32_1616
  let v1688 : BitVec 32 := Scalar.addi c0_i32_1617 v1687
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1618 : BitVec 32 := 4#32
  let v1689 : BitVec 32 := Scalar.muli v5 c4_i32_1618
  let v1690 : BitVec 32 := Scalar.addi v1688 v1689
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v21 : BitVec 32 := Scalar.xori v8 c1_i32_8
  let c1_i32_1619 : BitVec 32 := 1#32
  let v1691 : BitVec 32 := Scalar.muli v21 c1_i32_1619
  let v1692 : BitVec 32 := Scalar.addi v1690 v1691
  v1692.toNat
def k0_dev40 (d0 : Dev nD) : Nat :=
  let c0_i32_1668 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_7 v2
  let c8_i32_1667 : BitVec 32 := 8#32
  let v1736 : BitVec 32 := Scalar.muli v20 c8_i32_1667
  let v1737 : BitVec 32 := Scalar.addi c0_i32_1668 v1736
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1669 : BitVec 32 := 4#32
  let v1738 : BitVec 32 := Scalar.muli v5 c4_i32_1669
  let v1739 : BitVec 32 := Scalar.addi v1737 v1738
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1670 : BitVec 32 := 1#32
  let v1740 : BitVec 32 := Scalar.muli v8 c1_i32_1670
  let v1741 : BitVec 32 := Scalar.addi v1739 v1740
  v1741.toNat
def k0_dev41 (d0 : Dev nD) : Nat :=
  let c0_i32_1720 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1719 : BitVec 32 := 8#32
  let v1791 : BitVec 32 := Scalar.muli v2 c8_i32_1719
  let v1792 : BitVec 32 := Scalar.addi c0_i32_1720 v1791
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1721 : BitVec 32 := 4#32
  let v1793 : BitVec 32 := Scalar.muli v5 c4_i32_1721
  let v1794 : BitVec 32 := Scalar.addi v1792 v1793
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v21 : BitVec 32 := Scalar.xori v8 c1_i32_8
  let c1_i32_1722 : BitVec 32 := 1#32
  let v1795 : BitVec 32 := Scalar.muli v21 c1_i32_1722
  let v1796 : BitVec 32 := Scalar.addi v1794 v1795
  v1796.toNat
def k0_dev42 (d0 : Dev nD) : Nat :=
  let c0_i32_1788 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1787 : BitVec 32 := 8#32
  let v1863 : BitVec 32 := Scalar.muli v2 c8_i32_1787
  let v1864 : BitVec 32 := Scalar.addi c0_i32_1788 v1863
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1789 : BitVec 32 := 4#32
  let v1865 : BitVec 32 := Scalar.muli v5 c4_i32_1789
  let v1866 : BitVec 32 := Scalar.addi v1864 v1865
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v21 : BitVec 32 := Scalar.xori v8 c1_i32_8
  let c1_i32_1790 : BitVec 32 := 1#32
  let v1867 : BitVec 32 := Scalar.muli v21 c1_i32_1790
  let v1868 : BitVec 32 := Scalar.addi v1866 v1867
  v1868.toNat
-- ==== ReferenceIdeal.lean ====
abbrev S65536x1024 : Shape := ⟨2, ![65536, 1024]⟩
abbrev S2x32768x1024 : Shape := ⟨3, ![2, 32768, 1024]⟩
abbrev S_ : Shape := ⟨0, ![]⟩
abbrev S32768x1024 : Shape := ⟨2, ![32768, 1024]⟩

abbrev nBuf : Space → Nat
  | .hbm => 5
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S2x32768x1024, .f32⟩
  | .hbm, ⟨2, _⟩ => ⟨S_, .f32⟩
  | .hbm, ⟨3, _⟩ => ⟨S32768x1024, .f32⟩
  | .hbm, ⟨4, _⟩ => ⟨S32768x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Program.lean ====
/-
# The kernel's body as numbered steps

The body works through sixteen chunks of 1024 rows. This module names the pieces of the buffers a chunk uses, the
three steps of a chunk — `stepA` (round the chunk the peer wants and send it), `stepB` (add the chunk received to the
own chunk, store it and send it on) and `stepC` (receive a finished chunk) — and states that the body is the
sequence of these steps.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.ReduceProof

open Cert.KernelIdeal Cert.KernelIdeal.Gen
open Idealize.ShloMosaic Idealize.ShloMosaic.TcCoe
open Idealize.SL.Sem

variable {F : FTy → Type} [FloatOps F]

/-! ## Chunk numbers and slots -/

/-- Chunk `j`'s row block. -/
def r16 (j : ℕ) : Fin 16 := ⟨j % 16, Nat.mod_lt _ (by decide)⟩
/-- The slot of chunk `j` among three. -/
def r3 (j : ℕ) : Fin 3 := ⟨j % 3, Nat.mod_lt _ (by decide)⟩
/-- The slot of chunk `j` among two. -/
def r2 (j : ℕ) : Fin 2 := ⟨j % 2, Nat.mod_lt _ (by decide)⟩
/-- The slot of chunk `j` among eight. -/
def r8 (j : ℕ) : Fin 8 := ⟨j % 8, Nat.mod_lt _ (by decide)⟩

theorem inb3 (k : Fin 3) : ∀ a, (![k.val, 0, 0] : Fin 3 → Nat) a + S1x1024x1024.size a ≤ S3x1024x1024.size a := by
  revert k; decide
theorem inb2 (k : Fin 2) : ∀ a, (![k.val, 0, 0] : Fin 3 → Nat) a + S1x1024x1024.size a ≤ S2x1024x1024.size a := by
  revert k; decide
theorem inb8 (k : Fin 8) : ∀ a, (![k.val, 0, 0] : Fin 3 → Nat) a + S1x1024x1024.size a ≤ S8x1024x1024.size a := by
  revert k; decide
theorem inbS3 (k : Fin 3) : ∀ a, (![k.val] : Fin 1 → Nat) a + S1.size a ≤ S3.size a := by
  revert k; decide
theorem inbS2 (k : Fin 2) : ∀ a, (![k.val] : Fin 1 → Nat) a + S1.size a ≤ S2.size a := by
  revert k; decide
theorem inbS8 (k : Fin 8) : ∀ a, (![k.val] : Fin 1 → Nat) a + S1.size a ≤ S8.size a := by
  revert k; decide
theorem inbS16 (k : Fin 16) : ∀ a, (![k.val] : Fin 1 → Nat) a + S1.size a ≤ S16.size a := by
  revert k; decide

/-- Slot `k` of a buffer of three. -/
abbrev rect3 (k : Fin 3) : Rect S3x1024x1024 := Rect.unit (s := S3x1024x1024) ![k.val, 0, 0] S1x1024x1024.size (inb3 k)
/-- Slot `k` of a buffer of two. -/
abbrev rect2 (k : Fin 2) : Rect S2x1024x1024 := Rect.unit (s := S2x1024x1024) ![k.val, 0, 0] S1x1024x1024.size (inb2 k)
/-- Slot `k` of a buffer of eight. -/
abbrev rect8 (k : Fin 8) : Rect S8x1024x1024 := Rect.unit (s := S8x1024x1024) ![k.val, 0, 0] S1x1024x1024.size (inb8 k)

/-- Semaphore `k` of three. -/
abbrev sem3 (a : DmaSems sig S3) (k : Fin 3) :=
  ((a.slice (Rect.unit (s := S3) ![k.val] S1.size (inbS3 k))).squeeze S_ squeezes_S1_S_).sem
/-- Semaphore `k` of two. -/
abbrev sem2 (a : DmaSems sig S2) (k : Fin 2) :=
  ((a.slice (Rect.unit (s := S2) ![k.val] S1.size (inbS2 k))).squeeze S_ squeezes_S1_S_).sem
/-- Semaphore `k` of eight. -/
abbrev sem8 (a : DmaSems sig S8) (k : Fin 8) :=
  ((a.slice (Rect.unit (s := S8) ![k.val] S1.size (inbS8 k))).squeeze S_ squeezes_S1_S_).sem
/-- Semaphore `k` of sixteen. -/
abbrev sem16 (a : DmaSems sig S16) (k : Fin 16) :=
  ((a.slice (Rect.unit (s := S16) ![k.val] S1.size (inbS16 k))).squeeze S_ squeezes_S1_S_).sem

/-- The semaphore of the load into slot `k` of the buffer of rows to send. -/
abbrev semLF (k : Fin 3) := sem3 cc0_scratch5 k
/-- The semaphore of the load into slot `k` of the buffer of rows to keep. -/
abbrev semLK (k : Fin 3) := sem3 cc0_scratch6 k
/-- The semaphore of the copy of finished slot `k` to the own output. -/
abbrev semST (k : Fin 2) := sem2 cc0_scratch7 k
/-- The semaphore at the sender of the exchange along the first axis. -/
abbrev semS1 (k : Fin 2) := sem2 cc0_scratch8 k
/-- The semaphore at the sender of the exchange of finished rows. -/
abbrev semS2 (k : Fin 2) := sem2 cc0_scratch9 k
/-- The semaphore at the receiver of the exchange along the first axis. -/
abbrev semR1 (k : Fin 8) := sem8 cc0_scratch10 k
/-- The semaphore at the receiver of the exchange of finished rows. -/
abbrev semR2 (k : Fin 16) := sem16 cc0_scratch11 k
/-- The semaphore of credits. -/
abbrev semCr := cc0_scratch12.sem
/-- The barrier semaphore. -/
abbrev semBar := (SemArray.scalar (sig.barrier 0 rfl) : Sems sig S_).sem

/-- The argument on a device. -/
abbrev bX : Memref sig .tc .hbm S32768x1024 .f32 := Memref.whole main_arg0
/-- The result on a device. -/
abbrev bO : Memref sig .tc .hbm S32768x1024 .bf16 := Memref.whole main_v1
/-- The buffer of rows to send. -/
abbrev bF : Memref sig .tc .vmem S3x1024x1024 .f32 := Memref.whole cc0_scratch0
/-- The buffer of rows to keep. -/
abbrev bK : Memref sig .tc .vmem S3x1024x1024 .f32 := Memref.whole cc0_scratch1
/-- The buffer of rounded rows to send. -/
abbrev bS : Memref sig .tc .vmem S2x1024x1024 .bf16 := Memref.whole cc0_scratch2
/-- The buffer of finished rows. -/
abbrev bZ : Memref sig .tc .vmem S2x1024x1024 .bf16 := Memref.whole cc0_scratch3
/-- The buffer of rows received. -/
abbrev bR : Memref sig .tc .vmem S8x1024x1024 .bf16 := Memref.whole cc0_scratch4

/-- Slot `k` of the buffer of rows to send. -/
abbrev slF (k : Fin 3) := (bF.slice (rect3 k) (fun _ => rfl)).squeeze S1024x1024 squeezes_S1x1024x1024_S1024x1024
/-- Slot `k` of the buffer of rows to keep. -/
abbrev slK (k : Fin 3) := (bK.slice (rect3 k) (fun _ => rfl)).squeeze S1024x1024 squeezes_S1x1024x1024_S1024x1024
/-- Slot `k` of the buffer of rounded rows. -/
abbrev slS (k : Fin 2) := (bS.slice (rect2 k) (fun _ => rfl)).squeeze S1024x1024 squeezes_S1x1024x1024_S1024x1024
/-- Slot `k` of the buffer of finished rows. -/
abbrev slZ (k : Fin 2) := (bZ.slice (rect2 k) (fun _ => rfl)).squeeze S1024x1024 squeezes_S1x1024x1024_S1024x1024
/-- Slot `k` of the buffer of rows received. -/
abbrev slR (k : Fin 8) := (bR.slice (rect8 k) (fun _ => rfl)).squeeze S1024x1024 squeezes_S1x1024x1024_S1024x1024

/-- Chunk `k`'s rows in the half that device `d` sends. -/
abbrev rectFar (d : Dev nD) (k : Fin 16) : Rect S32768x1024 :=
  Rect.unit (s := S32768x1024) (k0_off1 d (BitVec.ofNat 32 (1024 * k.val))) S1024x1024.size (k0_off1_inb d k)
/-- Chunk `k`'s rows in the half that device `d` keeps. -/
abbrev rectOwn (d : Dev nD) (k : Fin 16) : Rect S32768x1024 :=
  Rect.unit (s := S32768x1024) (k0_off2 d (BitVec.ofNat 32 (1024 * k.val))) S1024x1024.size (k0_off2_inb d k)

/-- The argument's rows of chunk `k` that device `d` sends. -/
abbrev xFar (d : Dev nD) (k : Fin 16) := bX.slice (rectFar d k) (fun _ => rfl)
/-- The argument's rows of chunk `k` that device `d` keeps. -/
abbrev xOwn (d : Dev nD) (k : Fin 16) := bX.slice (rectOwn d k) (fun _ => rfl)
/-- The result's rows of chunk `k` that device `d` receives. -/
abbrev oFar (d : Dev nD) (k : Fin 16) := bO.slice (rectFar d k) (fun _ => rfl)
/-- The result's rows of chunk `k` that device `d` computes. -/
abbrev oOwn (d : Dev nD) (k : Fin 16) := bO.slice (rectOwn d k) (fun _ => rfl)

/-! ## The side conditions of the transfers -/

theorem hS : bS.IsWhole := Memref.isWhole_whole _
theorem hZ : bZ.IsWhole := Memref.isWhole_whole _
theorem hR : bR.IsWhole := Memref.isWhole_whole _
theorem hO : bO.IsWhole := Memref.isWhole_whole _

theorem wX_far (d : Dev nD) (k : Fin 16) : (xFar d k).view.WordExact := View.wordExact_bits rfl
theorem wX_own (d : Dev nD) (k : Fin 16) : (xOwn d k).view.WordExact := View.wordExact_bits rfl
theorem wF (k : Fin 3) : (slF k).view.WordExact := (View.wordExact_bits rfl).reshape _ _
theorem wK (k : Fin 3) : (slK k).view.WordExact := (View.wordExact_bits rfl).reshape _ _
theorem wS (k : Fin 2) : (slS k).view.WordExact := by
  match k with
  | 0 => exact (hS.wordExact_slice rfl _ wordsbf16_S2x1024x1024_S1x1024x1024_0_0_0).reshape _ _
  | 1 => exact (hS.wordExact_slice rfl _ wordsbf16_S2x1024x1024_S1x1024x1024_1_0_0).reshape _ _
theorem wZ (k : Fin 2) : (slZ k).view.WordExact := by
  match k with
  | 0 => exact (hZ.wordExact_slice rfl _ wordsbf16_S2x1024x1024_S1x1024x1024_0_0_0).reshape _ _
  | 1 => exact (hZ.wordExact_slice rfl _ wordsbf16_S2x1024x1024_S1x1024x1024_1_0_0).reshape _ _
theorem wR (k : Fin 8) : (slR k).view.WordExact := by
  match k with
  | 0 => exact (hR.wordExact_slice rfl _ wordsbf16_S8x1024x1024_S1x1024x1024_0_0_0).reshape _ _
  | 1 => exact (hR.wordExact_slice rfl _ wordsbf16_S8x1024x1024_S1x1024x1024_1_0_0).reshape _ _
  | 2 => exact (hR.wordExact_slice rfl _ wordsbf16_S8x1024x1024_S1x1024x1024_2_0_0).reshape _ _
  | 3 => exact (hR.wordExact_slice rfl _ wordsbf16_S8x1024x1024_S1x1024x1024_3_0_0).reshape _ _
  | 4 => exact (hR.wordExact_slice rfl _ wordsbf16_S8x1024x1024_S1x1024x1024_4_0_0).reshape _ _
  | 5 => exact (hR.wordExact_slice rfl _ wordsbf16_S8x1024x1024_S1x1024x1024_5_0_0).reshape _ _
  | 6 => exact (hR.wordExact_slice rfl _ wordsbf16_S8x1024x1024_S1x1024x1024_6_0_0).reshape _ _
  | 7 => exact (hR.wordExact_slice rfl _ wordsbf16_S8x1024x1024_S1x1024x1024_7_0_0).reshape _ _
theorem wO_far (d : Dev nD) (k : Fin 16) : (oFar d k).view.WordExact := hO.wordExact_slice rfl _ (k0_off1_wordsbf16 d k)
theorem wO_own (d : Dev nD) (k : Fin 16) : (oOwn d k).view.WordExact := hO.wordExact_slice rfl _ (k0_off2_wordsbf16 d k)

theorem packed2 (k : Fin 2) : (rect2 k).PackedRows (EltTy.packing .bf16) := by
  match k with
  | 0 => exact packedbf16_S2x1024x1024_S1x1024x1024_0_0_0
  | 1 => exact packedbf16_S2x1024x1024_S1x1024x1024_1_0_0

/-! ## The devices a step names -/

/-- The device to which chunk `j`'s rounded rows go. -/
def devX (d : Dev nD) : ℕ → Dev nD
  | 0 => ⟨k0_dev3 d, k0_dev3_lt d⟩
  | 1 => ⟨k0_dev4 d, k0_dev4_lt d⟩
  | 2 => ⟨k0_dev7 d, k0_dev7_lt d⟩
  | 3 => ⟨k0_dev10 d, k0_dev10_lt d⟩
  | 4 => ⟨k0_dev13 d, k0_dev13_lt d⟩
  | 5 => ⟨k0_dev16 d, k0_dev16_lt d⟩
  | 6 => ⟨k0_dev19 d, k0_dev19_lt d⟩
  | 7 => ⟨k0_dev22 d, k0_dev22_lt d⟩
  | 8 => ⟨k0_dev25 d, k0_dev25_lt d⟩
  | 9 => ⟨k0_dev28 d, k0_dev28_lt d⟩
  | 10 => ⟨k0_dev30 d, k0_dev30_lt d⟩
  | 11 => ⟨k0_dev32 d, k0_dev32_lt d⟩
  | 12 => ⟨k0_dev34 d, k0_dev34_lt d⟩
  | 13 => ⟨k0_dev36 d, k0_dev36_lt d⟩
  | 14 => ⟨k0_dev38 d, k0_dev38_lt d⟩
  | 15 => ⟨k0_dev40 d, k0_dev40_lt d⟩
  | _ => d

/-- The device to which the credit of chunk `j` goes. -/
def devC (d : Dev nD) : ℕ → Dev nD
  | 0 => ⟨k0_dev5 d, k0_dev5_lt d⟩
  | 1 => ⟨k0_dev8 d, k0_dev8_lt d⟩
  | 2 => ⟨k0_dev11 d, k0_dev11_lt d⟩
  | 3 => ⟨k0_dev14 d, k0_dev14_lt d⟩
  | 4 => ⟨k0_dev17 d, k0_dev17_lt d⟩
  | 5 => ⟨k0_dev20 d, k0_dev20_lt d⟩
  | 6 => ⟨k0_dev23 d, k0_dev23_lt d⟩
  | 7 => ⟨k0_dev26 d, k0_dev26_lt d⟩
  | _ => d

/-- The device to which chunk `j`'s finished rows go. -/
def devZ (d : Dev nD) : ℕ → Dev nD
  | 0 => ⟨k0_dev6 d, k0_dev6_lt d⟩
  | 1 => ⟨k0_dev9 d, k0_dev9_lt d⟩
  | 2 => ⟨k0_dev12 d, k0_dev12_lt d⟩
  | 3 => ⟨k0_dev15 d, k0_dev15_lt d⟩
  | 4 => ⟨k0_dev18 d, k0_dev18_lt d⟩
  | 5 => ⟨k0_dev21 d, k0_dev21_lt d⟩
  | 6 => ⟨k0_dev24 d, k0_dev24_lt d⟩
  | 7 => ⟨k0_dev27 d, k0_dev27_lt d⟩
  | 8 => ⟨k0_dev29 d, k0_dev29_lt d⟩
  | 9 => ⟨k0_dev31 d, k0_dev31_lt d⟩
  | 10 => ⟨k0_dev33 d, k0_dev33_lt d⟩
  | 11 => ⟨k0_dev35 d, k0_dev35_lt d⟩
  | 12 => ⟨k0_dev37 d, k0_dev37_lt d⟩
  | 13 => ⟨k0_dev39 d, k0_dev39_lt d⟩
  | 14 => ⟨k0_dev41 d, k0_dev41_lt d⟩
  | 15 => ⟨k0_dev42 d, k0_dev42_lt d⟩
  | _ => d

/-! ## The steps -/

/-- The effects of the body. -/
abbrev TP (F : FTy → Type) := Prog (TpuEff nD τ sig (Elt F) Λ₀ .tc)

/-- The rounded rows, as stored. -/
def payA (v : Vec F S1x1024x1024 .f32) : FVec F S1x1024x1024 .bf16 := k0_pay1 v
/-- The finished rows, as stored. -/
def payB (v : Vec F S1x1024x1024 .f32) (w : Vec F S1x1024x1024 .bf16) : FVec F S1x1024x1024 .bf16 := k0_pay3 v w

/-- Start the load of chunk `j`'s rows to send. -/
def loadF (d : Dev nD) (j : ℕ) : TP F PUnit :=
  Prog.lift (.enqueueDma (xFar d (r16 j)) (.here (slF (r3 j))) (.dma (semLF (r3 j))) (wX_far _ _) (wF _) ⟨Or.inl rfl, trivial⟩)
/-- Start the load of chunk `j`'s rows to keep. -/
def loadK (d : Dev nD) (j : ℕ) : TP F PUnit :=
  Prog.lift (.enqueueDma (xOwn d (r16 j)) (.here (slK (r3 j))) (.dma (semLK (r3 j))) (wX_own _ _) (wK _) ⟨Or.inl rfl, trivial⟩)

/-- Wait for the load of chunk `j`'s rows to send. -/
def waitF (d : Dev nD) (j : ℕ) : TP F PUnit :=
  Prog.lift (.waitDma2 (semLF (r3 j)) (xFar d (r16 j)) (slF (r3 j)) (wX_far _ _) (wF _))
/-- Wait for the load of chunk `j`'s rows to keep. -/
def waitK (d : Dev nD) (j : ℕ) : TP F PUnit :=
  Prog.lift (.waitDma2 (semLK (r3 j)) (xOwn d (r16 j)) (slK (r3 j)) (wX_own _ _) (wK _))

/-- Wait until the rounded rows of chunk `j` have left. -/
def waitS1 (j : ℕ) : TP F PUnit :=
  Prog.lift (.waitDma2 (semS1 (r2 j)) (slR (r8 j)) (slS (r2 j)) (wR _) (wS _))
/-- Wait until the finished rows of chunk `j` have left. -/
def waitS2 (d : Dev nD) (j : ℕ) : TP F PUnit :=
  Prog.lift (.waitDma2 (semS2 (r2 j)) (oOwn d (r16 j)) (slZ (r2 j)) (wO_own _ _) (wZ _))
/-- Wait until the finished rows of chunk `j` are in the own result. -/
def waitST (d : Dev nD) (j : ℕ) : TP F PUnit :=
  Prog.lift (.waitDma2 (semST (r2 j)) (slZ (r2 j)) (oOwn d (r16 j)) (wZ _) (wO_own _ _))
/-- Wait for chunk `j`'s rounded rows from the peer. -/
def waitR1 (j : ℕ) : TP F PUnit :=
  Prog.lift (.waitDma2 (semR1 (r8 j)) (slS (r2 j)) (slR (r8 j)) (wS _) (wR _))
/-- Wait for chunk `j`'s finished rows from the peer. -/
def waitR2 (d : Dev nD) (j : ℕ) : TP F PUnit :=
  Prog.lift (.waitDma2 (semR2 (r16 j)) (slZ (r2 j)) (oFar d (r16 j)) (wZ _) (wO_far _ _))

/-- Round the chunk loaded and store it into its slot. -/
def compA (j : ℕ) : TP F PUnit := do
  let v ← Prog.lift (.load bF (rect3 (r3 j)).toLoadRect (View.loadsAt_vmem h_S1x1024x1024))
  let _ ← Prog.lift (.load bS (rect2 (r2 j)).toLoadRect (View.loadsAt_vmem h_S1x1024x1024))
  Prog.lift (.store bS (rect2 (r2 j)) (payA v) Finset.univ
    (View.stores_vmem h_S1x1024x1024 (hS.storeExact_slice rfl _ (packed2 _)) (fun _ => rfl)) (.inl rfl))
/-- Add the chunk received to the chunk kept and store the rounded sum into its slot. -/
def compB (j : ℕ) : TP F PUnit := do
  let v ← Prog.lift (.load bK (rect3 (r3 j)).toLoadRect (View.loadsAt_vmem h_S1x1024x1024))
  let w ← Prog.lift (.load bR (rect8 (r8 j)).toLoadRect (View.loadsAt_vmem h_S1x1024x1024))
  let _ ← Prog.lift (.load bZ (rect2 (r2 j)).toLoadRect (View.loadsAt_vmem h_S1x1024x1024))
  Prog.lift (.store bZ (rect2 (r2 j)) (payB v w) Finset.univ
    (View.stores_vmem h_S1x1024x1024 (hZ.storeExact_slice rfl _ (packed2 _)) (fun _ => rfl)) (.inl rfl))

/-- Send chunk `j`'s rounded rows to the device `n`. -/
def sendX (n : Dev nD) (j : ℕ) : TP F PUnit :=
  Prog.lift (.enqueueDma (slS (r2 j)) (.remote (Dev.tc n) (slR (r8 j)) (.dma (semS1 (r2 j)))) (.dma (semR1 (r8 j)))
    (wS _) (wR _) ⟨⟨rfl, Or.inl rfl⟩, trivial⟩)
/-- Send chunk `j`'s finished rows to the device `n`. -/
def sendZ (d n : Dev nD) (j : ℕ) : TP F PUnit :=
  Prog.lift (.enqueueDma (slZ (r2 j)) (.remote (Dev.tc n) (oOwn d (r16 j)) (.dma (semS2 (r2 j)))) (.dma (semR2 (r16 j)))
    (wZ _) (wO_own _ _) ⟨⟨rfl, Or.inl rfl⟩, trivial⟩)
/-- Start the copy of chunk `j`'s finished rows to the own result. -/
def storeO (d : Dev nD) (j : ℕ) : TP F PUnit :=
  Prog.lift (.enqueueDma (slZ (r2 j)) (.here (oOwn d (r16 j))) (.dma (semST (r2 j))) (wZ _) (wO_own _ _) ⟨Or.inl rfl, trivial⟩)

/-- Chunk `j` rounded and sent. -/
def stepA (d : Dev nD) (j : ℕ) : TP F PUnit := do
  if 2 ≤ j then waitS1 (j - 2) else pure ⟨⟩
  waitF d j
  compA j
  if 8 ≤ j then semWaitWord semCr 1#32 else pure ⟨⟩
  sendX (devX d j) j
  if j < 13 then loadF d (j + 3) else pure ⟨⟩

/-- Chunk `j` received, added, stored and sent on. -/
def stepB (d : Dev nD) (j : ℕ) : TP F PUnit := do
  if 2 ≤ j then (do waitS2 d (j - 2); waitST d (j - 2)) else pure ⟨⟩
  waitR1 j
  waitK d j
  compB j
  if j < 8 then semSignalWord (devC d j) semCr 1#32 else pure ⟨⟩
  sendZ d (devZ d j) j
  storeO d j
  if j < 13 then loadK d (j + 3) else pure ⟨⟩

/-- Chunk `j` of the other half received. -/
def stepC (d : Dev nD) (j : ℕ) : TP F PUnit := waitR2 d j

/-- The handshake. -/
def stepH (d : Dev nD) : TP F PUnit := do
  semSignalWord (⟨k0_dev1 d, k0_dev1_lt d⟩ : Dev nD) semBar 1#32
  semSignalWord (⟨k0_dev2 d, k0_dev2_lt d⟩ : Dev nD) semBar 1#32
  semWaitWord semBar 2#32

/-- The first loads. -/
def stepL (d : Dev nD) : TP F PUnit := do
  loadF d 0; loadK d 0; loadF d 1; loadK d 1; loadF d 2; loadK d 2

/-- The last waits. -/
def stepE (d : Dev nD) : TP F PUnit := do
  waitS1 14; waitS2 d 14; waitST d 14; waitS1 15; waitS2 d 15; waitST d 15

/-- The steps of one middle round. -/
def stepM (d : Dev nD) (n : ℕ) : TP F PUnit := do
  stepA d (n + 2); stepB d (n + 1); stepC d n

/-- The whole body. -/
def bodySteps : TP F PUnit := do
  let d ← Prog.lift .deviceId
  stepH d; stepL d
  stepA d 0
  stepA d 1; stepB d 0
  stepM d 0
  stepM d 1
  stepM d 2
  stepM d 3
  stepM d 4
  stepM d 5
  stepM d 6
  stepM d 7
  stepM d 8
  stepM d 9
  stepM d 10
  stepM d 11
  stepM d 12
  stepM d 13
  stepB d 15; stepC d 14
  stepC d 15
  stepE d

/-- The body of the kernel is these steps. -/
theorem body_eq (t : Fin cfg0.N) : bodyAt0 (F := F) t = bodySteps := by
  refine (congrFun (congrFun (congrFun (congrFun (congrFun (congrFun (congrFun (congrFun (congrFun (congrFun (congrFun
    (congrFun (congrFun (congrFun (congrFun (congrFun (congrFun (congrFun (congrFun (congrFun (congrFun (congrFun
    cc0_body_eq_skeleton _) _) _) _) _) _) _) _) _) _) _) _) _) _) _) _) _) _) _) _) _) _).trans ?_
  sl_kernel_rfl

end Cert.ReduceProof

end
-- ==== Proof.Cells.lean ====
/-
# Peers, resources and the schedule of the transfers

Device `c` exchanges rounded rows with `xp c`, its peer along the first mesh axis, and finished rows with `zp c`, its
peer along the last one. This module fixes the ghost state of the proof, the semaphores that devices share (`CK`),
the contents that travel, and the schedule: which signal or transfer completes which round of which semaphore, and
what it hands over.
-/
module

public import proofs.«01_k».proof.Proof.Program
public import Idealize.ShloMosaic.Lib.Rounds
public import Idealize.ShloMosaic.Lib.Release
public import Idealize.ShloMosaic.Lib.Transfers
public import Idealize.ShloMosaic.Lib.Memref

@[expose] public section

noncomputable section

namespace Cert.ReduceProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## Peers -/

set_option backward.proofsInPublic true in
/-- The peer along the first mesh axis. -/
def xp (c : Dev nD) : Dev nD := ⟨(c.val + 8) % 16, Nat.mod_lt _ (by decide)⟩
set_option backward.proofsInPublic true in
/-- The peer along the last mesh axis. -/
def zp (c : Dev nD) : Dev nD := ⟨(c.val + 1 - 2 * (c.val % 2)) % 16, Nat.mod_lt _ (by decide)⟩

theorem xp_xp (c : Dev nD) : xp (xp c) = c := by revert c; decide
theorem zp_zp (c : Dev nD) : zp (zp c) = c := by revert c; decide
theorem xp_ne_zp (c : Dev nD) : xp c ≠ zp c := by revert c; decide

theorem dev1_eq (c : Dev nD) : (⟨k0_dev1 c, k0_dev1_lt c⟩ : Dev nD) = xp c := by revert c; decide +kernel
theorem dev2_eq (c : Dev nD) : (⟨k0_dev2 c, k0_dev2_lt c⟩ : Dev nD) = zp c := by revert c; decide +kernel

theorem devX_all : ∀ (c : Dev nD) (k : Fin 16), devX c k.val = xp c := by decide +kernel
theorem devC_all : ∀ (c : Dev nD) (k : Fin 8), devC c k.val = xp c := by decide +kernel
theorem devZ_all : ∀ (c : Dev nD) (k : Fin 16), devZ c k.val = zp c := by decide +kernel

/-- Every chunk's rounded rows go to the peer along the first axis. -/
theorem devX_eq (c : Dev nD) (j : ℕ) (h : j < 16) : devX c j = xp c := devX_all c ⟨j, h⟩
/-- Every credit goes to the peer along the first axis. -/
theorem devC_eq (c : Dev nD) (j : ℕ) (h : j < 8) : devC c j = xp c := devC_all c ⟨j, h⟩
/-- Every chunk's finished rows go to the peer along the last axis. -/
theorem devZ_eq (c : Dev nD) (j : ℕ) (h : j < 16) : devZ c j = zp c := devZ_all c ⟨j, h⟩

/-- The peers as bijections of the devices. -/
def xpE : Dev nD ≃ Dev nD := ⟨xp, xp, xp_xp, xp_xp⟩
/-- The peer along the last axis as a bijection. -/
def zpE : Dev nD ≃ Dev nD := ⟨zp, zp, zp_zp, zp_zp⟩

theorem off_xp : ∀ (c : Dev nD) (k : Fin 16),
    k0_off2 (xp c) (BitVec.ofNat 32 (1024 * k.val)) = k0_off1 c (BitVec.ofNat 32 (1024 * k.val)) := by decide +kernel
theorem off_zp : ∀ (c : Dev nD) (k : Fin 16),
    k0_off2 (zp c) (BitVec.ofNat 32 (1024 * k.val)) = k0_off1 c (BitVec.ofNat 32 (1024 * k.val)) := by decide +kernel
theorem off_xp' : ∀ (c : Dev nD) (k : Fin 16),
    k0_off1 (xp c) (BitVec.ofNat 32 (1024 * k.val)) = k0_off2 c (BitVec.ofNat 32 (1024 * k.val)) := by decide +kernel

theorem rect_congr {o o' : Fin 2 → ℕ} (h : o = o') (p : ∀ a, o a + S1024x1024.size a ≤ S32768x1024.size a)
    (p' : ∀ a, o' a + S1024x1024.size a ≤ S32768x1024.size a) :
    Rect.unit (s := S32768x1024) o S1024x1024.size p = Rect.unit (s := S32768x1024) o' S1024x1024.size p' := by
  subst h; rfl

/-- The rows a device keeps are those its peer along the first axis sends. -/
theorem rectOwn_xp (c : Dev nD) (k : Fin 16) : rectOwn (xp c) k = rectFar c k := rect_congr (off_xp c k) _ _
/-- The rows a device sends are those its peer along the first axis keeps. -/
theorem rectFar_xp (c : Dev nD) (k : Fin 16) : rectFar (xp c) k = rectOwn c k := rect_congr (off_xp' c k) _ _
/-- The rows a device finishes are those its peer along the last axis receives. -/
theorem rectOwn_zp (c : Dev nD) (k : Fin 16) : rectOwn (zp c) k = rectFar c k := rect_congr (off_zp c k) _ _
/-- The rows a device receives are those its peer along the last axis finishes. -/
theorem rectFar_zp (c : Dev nD) (k : Fin 16) : rectFar (zp c) k = rectOwn c k := by
  rw [← rectOwn_zp (zp c), zp_zp]

/-! ## The ghost state -/

/-- The rounds of the shared semaphores. -/
abbrev UB : Type := URounds (GSem nD τ sig) (Fin 8)
/-- A receive slot: its device and its number. -/
abbrev Key : Type := Dev nD × Fin 8
/-- All ghost state: the launch's, the rounds, the receive slots, the counters of local copies. -/
abbrev UU : Type := UR sig nD τ × (UB × (USlots Key × Counters))

local notation "𝕄" => MT nD τ sig ℕ (Elt F) ℕ UU ℕ

abbrev EP : Emb (UR sig nD τ) (MT nD τ sig ℕ (Elt F) ℕ UU ℕ) := embL
abbrev EQ : Emb (UB × (USlots Key × Counters)) (MT nD τ sig ℕ (Elt F) ℕ UU ℕ) := embR
abbrev ER : Emb UB (MT nD τ sig ℕ (Elt F) ℕ UU ℕ) := (Emb.inl : Emb UB (UB × (USlots Key × Counters))).trans EQ
abbrev ES : Emb (USlots Key) (MT nD τ sig ℕ (Elt F) ℕ UU ℕ) :=
  ((Emb.inl : Emb (USlots Key) (USlots Key × Counters)).trans
    (Emb.inr : Emb _ (UB × (USlots Key × Counters)))).trans EQ

/-! ## The shared semaphores -/

/-- The shared semaphores of a device: the barrier, the credits, the two senders' and the two receivers'. -/
inductive CK
  | bar
  | cr
  | s1 (b : Fin 2)
  | s2 (b : Fin 2)
  | r1 (s : Fin 8)
  | r2 (k : Fin 16)
  deriving DecidableEq

set_option backward.proofsInPublic true in
/-- The kinds as a sum of index types. -/
def ckE : CK ≃ Bool ⊕ ((Fin 2 ⊕ Fin 2) ⊕ (Fin 8 ⊕ Fin 16)) where
  toFun
    | .bar => .inl false
    | .cr => .inl true
    | .s1 b => .inr (.inl (.inl b))
    | .s2 b => .inr (.inl (.inr b))
    | .r1 s => .inr (.inr (.inl s))
    | .r2 k => .inr (.inr (.inr k))
  invFun
    | .inl false => .bar
    | .inl true => .cr
    | .inr (.inl (.inl b)) => .s1 b
    | .inr (.inl (.inr b)) => .s2 b
    | .inr (.inr (.inl s)) => .r1 s
    | .inr (.inr (.inr k)) => .r2 k
  left_inv k := by cases k <;> rfl
  right_inv k := by rcases k with (_ | _) | (_ | _) | (_ | _) <;> rfl

instance : Fintype CK := Fintype.ofEquiv _ ckE.symm

/-- The semaphore of each kind. -/
def csem : CK → SemLoc sig
  | .bar => .reg semBar
  | .cr => .reg semCr
  | .s1 b => .dma (semS1 b)
  | .s2 b => .dma (semS2 b)
  | .r1 s => .dma (semR1 s)
  | .r2 k => .dma (semR2 k)

theorem csem_inj' : ∀ a b : CK, csem a = csem b → a = b := by decide +kernel
theorem csem_inj : Function.Injective csem := fun a b h => csem_inj' a b h

/-- A device's semaphore of a kind. -/
abbrev kcell (c : Dev nD) (k : CK) : GSem nD τ sig := ((c : Thread nD τ), csem k)

open Classical in
/-- The kind of a semaphore. -/
def kindOf (sm : SemLoc sig) : Option CK := if h : ∃ k, csem k = sm then some h.choose else none

theorem kindOf_csem (k : CK) : kindOf (csem k) = some k := by
  unfold kindOf
  have h : ∃ k', csem k' = csem k := ⟨k, rfl⟩
  rw [dif_pos h, csem_inj h.choose_spec]

/-- The amount of one transfer between devices. -/
abbrev NB : ℕ := (slR 0).view.dmaCredit
theorem NB_pos : 0 < NB := View.dmaCredit_pos _ (by decide)

theorem credR (k : Fin 8) : (slR k).view.dmaCredit = NB := rfl
theorem credS (k : Fin 2) : (slS k).view.dmaCredit = NB := rfl
theorem credZ (k : Fin 2) : (slZ k).view.dmaCredit = NB := rfl
theorem credO (d : Dev nD) (k : Fin 16) : (oOwn d k).view.dmaCredit = NB := rfl
theorem credOF (d : Dev nD) (k : Fin 16) : (oFar d k).view.dmaCredit = NB := rfl

/-! ## Contents -/

variable (m : (ℓ : Loc nD τ sig) → Buf (Elt F) ℓ)

/-- A chunk's shape with a leading axis of one, and back. -/
abbrev up {e : EltTy} (v : Vec F S1024x1024 e) : Vec F S1x1024x1024 e :=
  shapeCast S1x1024x1024 v
    squeezes_S1x1024x1024_S1024x1024.numel_eq.symm
/-- A chunk without its leading axis of one. -/
abbrev down {e : EltTy} (v : Vec F S1x1024x1024 e) : Vec F S1024x1024 e :=
  shapeCast S1024x1024 v
    squeezes_S1x1024x1024_S1024x1024.numel_eq

/-- The argument's rows that device `c` sends, chunk `j`. -/
def farV (c : Dev nD) (j : ℕ) : Vec F S1024x1024 .f32 :=
  (xFar c (r16 j)).view.read (Elt F) (m ((c : Thread nD τ).loc main_arg0))
/-- The argument's rows that device `c` keeps, chunk `j`. -/
def ownV (c : Dev nD) (j : ℕ) : Vec F S1024x1024 .f32 :=
  (xOwn c (r16 j)).view.read (Elt F) (m ((c : Thread nD τ).loc main_arg0))
/-- What device `c` sends along the first axis. -/
def sentV (c : Dev nD) (j : ℕ) : Vec F S1024x1024 .bf16 := down (payA (up (farV m c j)))
/-- What device `c` finishes. -/
def finV (c : Dev nD) (j : ℕ) : Vec F S1024x1024 .bf16 := down (payB (up (ownV m c j)) (up (sentV m (xp c) j)))

/-- A device's piece of a buffer, at any contents. -/
def anyOf (c : Dev nD) {sp : Space} {s : Shape} {e : EltTy} (w : Memref sig .tc sp s e) : sProp 𝕄 :=
  iprop(∃ f, w.view.loc (c : Thread nD τ) ↦[w.view.set]{fullShare} f)

omit [FloatOps F] in
instance anyOf_storable (c : Dev nD) {sp : Space} {s : Shape} {e : EltTy} (w : Memref sig .tc sp s e) :
    BI.Storable (upEmb : UEmb _ 𝕄) (anyOf (F := F) c w) := by unfold anyOf; infer_instance

/-- A device's piece of a buffer at known contents. -/
abbrev has (c : Dev nD) {sp : Space} {s : Shape} {e : EltTy} (w : Memref sig .tc sp s e) (q : PosShare TreeShare)
    (X : s.Idx → Elt F e) : sProp 𝕄 := owns (c : Thread nD τ) w q X

/-! ## The schedule -/

/-- Which duties a round of a kind has. -/
def kDuties : CK → ℕ → Finset (Fin 8)
  | .bar, r => if r = 0 then {0, 1} else ∅
  | .cr, r => if r = 0 then Finset.univ else ∅
  | .s1 _, r => if r < 8 then {0} else ∅
  | .s2 _, r => if r < 8 then {0} else ∅
  | .r1 _, r => if r < 2 then {0} else ∅
  | .r2 _, r => if r = 0 then {0} else ∅

/-- How much each duty brings. -/
def kAmount : CK → ℕ
  | .bar => 1
  | .cr => 1
  | _ => NB

/-- The fact that the slot of chunk `i` at device `c` has been read and may be written again. -/
def slotFree (c : Dev nD) (i : ℕ) : sProp 𝕄 := iprop(released ES (c, r8 i) 1 ∗ reached ER (kcell c (.r1 (r8 i))) 1)

omit [FloatOps F] in
instance slotFree_storable (c : Dev nD) (i : ℕ) : BI.Storable (upEmb : UEmb _ 𝕄) (slotFree (F := F) c i) := by
  unfold slotFree; infer_instance
omit [FloatOps F] in
instance slotFree_persistent (c : Dev nD) (i : ℕ) : BI.Persistent (slotFree (F := F) c i : sProp 𝕄) := by
  unfold slotFree; infer_instance

/-- What each duty hands over. The barrier: the peer's receive slots, or the peer's rows of the result. A credit: that
    the peer's slots up to its number are free. A sender's semaphore: the slot sent. A receiver's: the rows received. -/
def kPay (c : Dev nD) : CK → ℕ → Fin 8 → sProp 𝕄
  | .bar, _, d =>
    if d = 0 then bigSep (Finset.range 8) fun i => anyOf (xp c) (slR (r8 i))
    else bigSep (Finset.range 16) fun i => anyOf (zp c) (oOwn c (r16 i))
  | .cr, _, d => bigSep (Finset.range (d.val + 1)) fun i => slotFree (xp c) i
  | .s1 b, _, _ => anyOf c (slS b)
  | .s2 b, r, _ => has c (slZ b) fullShare.left (finV m c (2 * r + b.val))
  | .r1 s, r, _ => has c (slR s) fullShare (sentV m (xp c) (8 * r + s.val))
  | .r2 k, _, _ => has c (oFar c k) fullShare (finV m (zp c) k.val)

instance kPay_storable (c : Dev nD) (k : CK) (r : ℕ) (d : Fin 8) :
    BI.Storable (upEmb : UEmb _ 𝕄) (kPay (F := F) m c k r d) := by
  cases k with
  | bar =>
    show BI.Storable upEmb (if d = 0 then bigSep (Finset.range 8) fun i => anyOf (xp c) (slR (r8 i))
      else bigSep (Finset.range 16) fun i => anyOf (zp c) (oOwn c (r16 i)))
    by_cases h : d = 0
    · rw [if_pos h]; infer_instance
    · rw [if_neg h]; infer_instance
  | _ => dsimp only [kPay]; infer_instance

/-- The schedule of every semaphore. -/
def Rd : Rounds.Schedule (GSem nD τ sig) (Fin 8) 𝕄 where
  duties g r := if g.1.2 = .tc then (kindOf g.2).elim ∅ (fun k => kDuties k r) else ∅
  unitless _ := False
  amount g _ _ := (kindOf g.2).elim 1 kAmount
  payload g r d := (kindOf g.2).elim iprop(emp) (fun k => kPay m g.1.1 k r d)
  amount_pos g _ _ _ := by
    cases kindOf g.2 with
    | none => exact Nat.one_pos
    | some k => cases k <;> first | exact Nat.one_pos | exact NB_pos

instance Rd_payload_storable (g : GSem nD τ sig) (r : ℕ) (d : Fin 8) :
    BI.Storable (upEmb : UEmb _ 𝕄) ((Rd (F := F) m).payload g r d) := by
  show BI.Storable upEmb ((kindOf g.2).elim iprop(emp) (fun k => kPay m g.1.1 k r d))
  cases kindOf g.2 with
  | none => dsimp only [Option.elim]; infer_instance
  | some k => dsimp only [Option.elim]; infer_instance

theorem duties_cell (c : Dev nD) (k : CK) (r : ℕ) : (Rd (F := F) m).duties (kcell c k) r = kDuties k r := by
  dsimp only [Rd]; rw [if_pos rfl, kindOf_csem]; rfl
theorem amount_cell (c : Dev nD) (k : CK) (r : ℕ) (d : Fin 8) : (Rd (F := F) m).amount (kcell c k) r d = kAmount k := by
  dsimp only [Rd]; rw [kindOf_csem]; rfl
theorem payload_cell (c : Dev nD) (k : CK) (r : ℕ) (d : Fin 8) :
    (Rd (F := F) m).payload (kcell c k) r d = kPay m c k r d := by
  dsimp only [Rd]; rw [kindOf_csem]; rfl
theorem expect_cell (c : Dev nD) (k : CK) (r : ℕ) :
    (Rd (F := F) m).expect (kcell c k) r = (kDuties k r).card * kAmount k := by
  unfold Schedule.expect Schedule.amountOf
  rw [duties_cell, Finset.sum_congr rfl fun d _ => amount_cell m c k r d, Finset.sum_const, smul_eq_mul]

end Cert.ReduceProof

end
-- ==== Proof.Owed.lean ====
/-
# What a device owes, the order of the waits, and triples

A device owes the rows it has not sent and the credits it has not given. A wait is allowed when every debt lies at a
higher level than the semaphore waited on; the levels grow with the chunk number.
-/
module

public import proofs.«01_k».proof.Proof.Cells

@[expose] public section

noncomputable section

namespace Cert.ReduceProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Debts -/

/-- One chunk's debt of rounded rows. -/
abbrev tR1 (c : Dev nD) (j : ℕ) : CellTallies nD τ sig ℕ := tallyAt (kcell (xp c) (.r1 (r8 j))) j NB
/-- One credit's debt. -/
abbrev tCr (c : Dev nD) (j : ℕ) : CellTallies nD τ sig ℕ := tallyAt (kcell (xp c) .cr) j 1
/-- One chunk's debt of finished rows. -/
abbrev tR2 (c : Dev nD) (j : ℕ) : CellTallies nD τ sig ℕ := tallyAt (kcell (zp c) (.r2 (r16 j))) j NB

/-- What device `c` owes after sending `a` rounded chunks, giving `b` credits and sending `b'` finished chunks. -/
def owe (c : Dev nD) (a b b' : ℕ) : CellTallies nD τ sig ℕ :=
  (∑ j ∈ Finset.Ico a 16, tR1 c j) + (∑ j ∈ Finset.Ico b 8, tCr c j) + ∑ j ∈ Finset.Ico b' 16, tR2 c j

/-- What device `c` owes at launch: two barrier signals besides. -/
def owe0 (c : Dev nD) : CellTallies nD τ sig ℕ :=
  (owe c 0 0 0 + tallyAt (kcell (zp c) .bar) 0 1) + tallyAt (kcell (xp c) .bar) 0 1

theorem sum_step {M : Type} [AddCommMonoid M] (f : ℕ → M) {a n : ℕ} (h : a < n) :
    ∑ j ∈ Finset.Ico a n, f j = (∑ j ∈ Finset.Ico (a + 1) n, f j) + f a := by
  have e : Finset.Ico a n = insert a (Finset.Ico (a + 1) n) := by
    ext x; simp only [Finset.mem_Ico, Finset.mem_insert]; omega
  rw [e, Finset.sum_insert (by simp only [Finset.mem_Ico]; omega), add_comm]

theorem owe_a (c : Dev nD) (a b b' : ℕ) (h : a < 16) : owe c a b b' = owe c (a + 1) b b' + tR1 c a := by
  unfold owe; rw [sum_step _ h]; ac_rfl
theorem owe_b (c : Dev nD) (a b b' : ℕ) (h : b < 8) : owe c a b b' = owe c a (b + 1) b' + tCr c b := by
  unfold owe; rw [sum_step _ h]; ac_rfl
theorem owe_b' (c : Dev nD) (a b b' : ℕ) (h : b' < 16) : owe c a b b' = owe c a b (b' + 1) + tR2 c b' := by
  unfold owe; rw [sum_step _ h]; ac_rfl
theorem owe_b8 (c : Dev nD) (a b b' : ℕ) (h : 8 ≤ b) : owe c a (b + 1) b' = owe c a b b' := by
  unfold owe; rw [Finset.Ico_eq_empty_of_le h, Finset.Ico_eq_empty_of_le (h.trans (Nat.le_succ b))]
theorem owe_end (c : Dev nD) : owe c 16 16 16 = 0 := by
  unfold owe
  rw [Finset.Ico_eq_empty_of_le (le_refl 16), Finset.Ico_eq_empty_of_le (by decide : 8 ≤ 16)]
  simp only [Finset.sum_empty, add_zero]

theorem sum_pos {s : Finset ℕ} {f : ℕ → GSem nD τ sig} {n : ℕ} {g : GSem nD τ sig} {u : ℕ}
    (h : 0 < (∑ j ∈ s, tallyAt (f j) j n : CellTallies nD τ sig ℕ) g u) : ∃ j ∈ s, g = f j ∧ u = j := by
  by_contra hn
  rw [Finset.sum_apply, Finsupp.finsetSum_apply, Finset.sum_eq_zero] at h
  · exact Nat.lt_irrefl 0 h
  · intro j hj
    rw [tallyAt_apply, if_neg (fun h' => hn ⟨j, hj, h'.1, h'.2⟩)]

theorem owe_pos {c : Dev nD} {a b b' : ℕ} {g : GSem nD τ sig} {u : ℕ} (h : 0 < owe c a b b' g u) :
    (a ≤ u ∧ u < 16 ∧ g = kcell (xp c) (.r1 (r8 u))) ∨ (b ≤ u ∧ u < 8 ∧ g = kcell (xp c) .cr)
      ∨ (b' ≤ u ∧ u < 16 ∧ g = kcell (zp c) (.r2 (r16 u))) := by
  unfold owe at h
  rw [Pi.add_apply, Finsupp.add_apply, Pi.add_apply, Finsupp.add_apply] at h
  rcases (by omega : 0 < (∑ j ∈ Finset.Ico a 16, tR1 c j) g u ∨ 0 < (∑ j ∈ Finset.Ico b 8, tCr c j) g u
    ∨ 0 < (∑ j ∈ Finset.Ico b' 16, tR2 c j) g u) with h | h | h
  · obtain ⟨j, hj, hg, rfl⟩ := sum_pos h
    exact .inl ⟨(Finset.mem_Ico.mp hj).1, (Finset.mem_Ico.mp hj).2, hg⟩
  · obtain ⟨j, hj, hg, rfl⟩ := sum_pos (f := fun _ => kcell (xp c) .cr) h
    exact .inr (.inl ⟨(Finset.mem_Ico.mp hj).1, (Finset.mem_Ico.mp hj).2, hg⟩)
  · obtain ⟨j, hj, hg, rfl⟩ := sum_pos h
    exact .inr (.inr ⟨(Finset.mem_Ico.mp hj).1, (Finset.mem_Ico.mp hj).2, hg⟩)

/-! ## Levels -/

/-- A kind's level at an index. -/
def kLev : CK → ℕ → ℕ
  | .bar, _ => 1
  | .r1 _, i => 4 * i + 2
  | .cr, i => 4 * i + 3
  | .r2 _, i => 4 * i + 3
  | _, _ => 0

/-- The level of a semaphore at an index. -/
def lv (g : GSem nD τ sig) (i : ℕ) : ℕ := (kindOf g.2).elim 0 (fun k => kLev k i)
/-- The indices in use. -/
def L (g : GSem nD τ sig) : Finset ℕ := if g.1.2 = .tc then Finset.range 16 else ∅

theorem L_of_ne (g : GSem nD τ sig) (h : g.1.2 ≠ .tc) : L g = ∅ := if_neg h
theorem L_tc (c : Dev nD) (sm : SemLoc sig) : L ((c : Thread nD τ), sm) = Finset.range 16 := if_pos rfl
theorem lv_cell (c : Dev nD) (k : CK) (i : ℕ) : lv (kcell c k) i = kLev k i := by
  unfold lv; rw [kindOf_csem]; rfl

theorem kind_local {s : DmaSem sig} (h : ∀ k, csem k ≠ .dma s) : kindOf (.dma s) = none := by
  unfold kindOf; exact dif_neg fun ⟨k, hk⟩ => h k hk

theorem LF_ne : ∀ (k : Fin 3) (q : CK), csem q ≠ .dma (semLF k) := by decide +kernel
theorem LK_ne : ∀ (k : Fin 3) (q : CK), csem q ≠ .dma (semLK k) := by decide +kernel
theorem ST_ne : ∀ (k : Fin 2) (q : CK), csem q ≠ .dma (semST k) := by decide +kernel

/-- A wait at a level below every debt is allowed. -/
theorem mayWait (c : Dev nD) (sm : SemLoc sig) (i n : ℕ) (hi : i < 16) (hl : lv ((c : Thread nD τ), sm) i ≤ n)
    (a b b' : ℕ) (ha : n < 4 * a + 2 ∨ 16 ≤ a) (hb : n < 4 * b + 3 ∨ 8 ≤ b) (hb' : n < 4 * b' + 3 ∨ 16 ≤ b') :
    (levAts L lv : sProp 𝕄) ⊢ MayWait (c : Thread nD τ) sm i (owe c a b b') :=
  MayOwe.of_cut (L := L) (lev := lv) n
    (fun p hp => by rw [Finset.mem_singleton.mp hp, L_tc]; exact Finset.mem_range.mpr hi)
    (fun g u hg => by
      rcases owe_pos hg with ⟨h1, h2, rfl⟩ | ⟨h1, h2, rfl⟩ | ⟨h1, h2, rfl⟩ <;> rw [L_tc] <;> exact Finset.mem_range.mpr (by omega))
    (fun p hp => by rw [Finset.mem_singleton.mp hp]; exact hl)
    (fun g u hg => by
      rcases owe_pos hg with ⟨h1, h2, rfl⟩ | ⟨h1, h2, rfl⟩ | ⟨h1, h2, rfl⟩ <;> rw [lv_cell] <;> simp only [kLev] <;> omega)

/-- A wait on a semaphore of level zero is always allowed. -/
theorem mayWait0 (c : Dev nD) (sm : SemLoc sig) (hl : lv ((c : Thread nD τ), sm) 0 = 0) (a b b' : ℕ) :
    (levAts L lv : sProp 𝕄) ⊢ MayWait (c : Thread nD τ) sm 0 (owe c a b b') :=
  mayWait c sm 0 0 (by decide) hl.le a b b' (.inl (by omega)) (.inl (by omega)) (.inl (by omega))

theorem lv_local {s : DmaSem sig} (c : Dev nD) (i : ℕ) (h : ∀ k, csem k ≠ .dma s) :
    lv ((c : Thread nD τ), .dma s) i = 0 := by unfold lv; rw [kind_local h]; rfl

/-! ## The records every step may read -/

variable (m : (ℓ : Loc nD τ sig) → Buf (Elt F) ℓ)
variable (K : Dev nD × CK → ℕ) (Ks : Key → ℕ)

/-- The invariant of a shared semaphore. -/
abbrev inv (c : Dev nD) (k : CK) : sProp 𝕄 := cellInv ER (Rd m) (K (c, k)) (kcell c k)
/-- The invariant of a receive slot. -/
abbrev sinv (k : Key) : sProp 𝕄 := slotInv ES (Ks k) k (anyOf k.1 (slR k.2))

/-- All invariants, the launch's marks and the levels. -/
def recs : sProp 𝕄 :=
  iprop((bigSep Finset.univ fun p : Dev nD × CK => inv m K p.1 p.2)
    ∗ (bigSep Finset.univ fun p : Dev nD × CK => reached ER (kcell p.1 p.2) 0)
    ∗ (bigSep Finset.univ fun k : Key => sinv Ks k)
    ∗ levAts L lv)

instance recs_persistent : BI.Persistent (recs (F := F) m K Ks) := by unfold recs; infer_instance

/-- One conjunct of a big conjunction. -/
theorem pick {I : Type} [DecidableEq I] {s : Finset I} {i : I} (h : i ∈ s) (Φ : I → sProp 𝕄) : bigSep s Φ ⊢ Φ i :=
  bigSep_elim h

theorem recs_inv (c : Dev nD) (k : CK) : recs (F := F) m K Ks ⊢ inv m K c k := by
  unfold recs; iintro ⟨H, -⟩
  iapply (pick (Finset.mem_univ (c, k)) (fun p : Dev nD × CK => inv m K p.1 p.2)) $$ H
theorem recs_reached (c : Dev nD) (k : CK) : recs (F := F) m K Ks ⊢ (reached ER (kcell c k) 0 : sProp 𝕄) := by
  unfold recs; iintro ⟨-, H, -⟩
  iapply (pick (Finset.mem_univ (c, k)) (fun p : Dev nD × CK => (reached ER (kcell p.1 p.2) 0 : sProp 𝕄))) $$ H
theorem recs_sinv (k : Key) : recs (F := F) m K Ks ⊢ sinv Ks k := by
  unfold recs; iintro ⟨-, -, H, -⟩
  iapply (pick (Finset.mem_univ k) (fun k : Key => sinv (F := F) Ks k)) $$ H
theorem recs_lev : recs (F := F) m K Ks ⊢ (levAts L lv : sProp 𝕄) := by
  unfold recs; iintro ⟨-, -, -, H⟩; iexact H

/-! ## Triples -/

/-- No loop variants. -/
abbrev 𝒱₀ : Variants := Variants.none

/-- Running a program of device `c`. -/
abbrev run (c : Dev nD) {α : Type} (p : TP F α) (Q : α → sProp 𝕄) : sProp 𝕄 :=
  wp frame (wpE (defs₀ (F := F)) 𝒱₀ (c : Thread nD τ) none) Set.univ p Q

/-- `Tri c P p R`: on device `c`, with the records, `P` suffices to run `p`, which leaves `R`. -/
def Tri (c : Dev nD) (P : sProp 𝕄) (p : TP F PUnit.{1}) (R : sProp 𝕄) : Prop :=
  ∀ {α : Type} (k : PUnit.{1} → TP F α) (Q : α → sProp 𝕄),
    iprop(recs m K Ks ∗ P) ⊢ iprop((R -∗ run c (k ⟨⟩) Q) -∗ run c (p >>= k) Q)

variable {m K Ks}
variable {c : Dev nD} {p q : TP F PUnit.{1}}

/-- A triple at a continuation. -/
theorem Tri.at {P R : sProp 𝕄} (h : Tri m K Ks c P p R) {α : Type} (k : PUnit.{1} → TP F α) (Q : α → sProp 𝕄) :
    iprop(recs m K Ks ∗ P) ⊢ iprop((R -∗ run c (k ⟨⟩) Q) -∗ run c (p >>= k) Q) := h k Q

/-- One program after another. -/
theorem Tri.seq {P R T : sProp 𝕄} (h₁ : Tri m K Ks c P p R) (h₂ : Tri m K Ks c R q T) : Tri m K Ks c P (p >>= fun _ => q) T := by
  intro α k Q
  rw [Prog.bind_assoc]
  iintro ⟨#HR, HP⟩ Hk
  iapply (h₁.at (fun _ => q >>= k) Q) $$ [HP]
  · isplitr; · iexact HR
    iexact HP
  iintro HS
  iapply (h₂.at k Q) $$ [HS]
  · isplitr; · iexact HR
    iexact HS
  iexact Hk

/-- What a program does not touch stays. -/
theorem Tri.frame {P R : sProp 𝕄} (h : Tri m K Ks c P p R) (X : sProp 𝕄) : Tri m K Ks c iprop(P ∗ X) p iprop(R ∗ X) := by
  intro α k Q
  iintro ⟨#HR, HP, HX⟩ Hk
  iapply (h.at k Q) $$ [HP]
  · isplitr; · iexact HR
    iexact HP
  iintro HS
  iapply Hk
  isplitl [HS]; · iexact HS
  iexact HX

/-- A weaker need and a stronger result. -/
theorem Tri.conseq {P P' R R' : sProp 𝕄} (h : Tri m K Ks c P p R) (h₁ : iprop(recs m K Ks ∗ P') ⊢ |={Set.univ}=> P)
    (h₂ : R ⊢ R') : Tri m K Ks c P' p R' := by
  intro α k Q
  iintro ⟨#HR, HP⟩ Hk
  imod h₁ $$ [HP] with HP
  · isplitr; · iexact HR
    iexact HP
  iapply (h.at k Q) $$ [HP]
  · isplitr; · iexact HR
    iexact HP
  iintro HS
  iapply Hk
  iapply h₂; iexact HS

/-- Doing nothing. -/
theorem Tri.skip (P : sProp 𝕄) : Tri m K Ks c P (pure ⟨⟩) P := by
  intro α k Q
  show iprop(recs m K Ks ∗ P) ⊢ iprop((P -∗ run c (k ⟨⟩) Q) -∗ run c (k ⟨⟩) Q)
  iintro ⟨#HR, HP⟩ Hk
  iapply Hk; iexact HP

/-- A change of the ghost state after a program. -/
theorem Tri.post {P R R' : sProp 𝕄} (h : Tri m K Ks c P p R) (h₂ : iprop(recs m K Ks ∗ R) ⊢ |={Set.univ}=> R') : Tri m K Ks c P p R' := by
  intro α k Q
  iintro ⟨#HR, HP⟩ Hk
  iapply (h.at k Q) $$ [HP]
  · isplitr; · iexact HR
    iexact HP
  iintro HS
  imod h₂ $$ [HS] with HS
  · isplitr; · iexact HR
    iexact HS
  iapply Hk; iexact HS

end Cert.ReduceProof

end
-- ==== Proof.Ops.lean ====
/-
# The triples of the single operations

One triple for each operation of a step: the local loads and their waits, the two computations, the transfers to the
peers and the waits for them, the credits.
-/
module

public import proofs.«01_k».proof.Proof.Owed
public import Idealize.ShloMosaic.Lib.Pipeline.Value

@[expose] public section

noncomputable section

namespace Cert.ReduceProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-- The counters of local copies. -/
abbrev EC : UEmb Counters (MT nD τ sig ℕ (Elt F) ℕ UU ℕ) := countersEmb

/-! ## Pieces of buffers -/

section Pieces
variable (c : Dev nD) {sp : Space} {s : Shape} {e : EltTy} (w : Memref sig .tc sp s e)

/-- A piece just written holds what was written. -/
theorem has_written (q : PosShare TreeShare) (f : w.view.ty.Contents (Elt F)) (X : s.Idx → Elt F e) :
    (w.view.loc (c : Thread nD τ) ↦[w.view.set]{q} (w.view.write (Elt F) f X Finset.univ) : sProp 𝕄) ⊢ has c w q X :=
  (owns_intro (c : Thread nD τ) w q _).trans (Entails.of_eq (by rw [View.read_write_univ]))

theorem has_open (q : PosShare TreeShare) (X : s.Idx → Elt F e) :
    (has c w q X : sProp 𝕄) ⊢ iprop(∃ f, ⌜w.view.read (Elt F) f = X⌝ ∗ (w.view.loc (c : Thread nD τ) ↦[w.view.set]{q} f)) := .rfl

theorem any_open : (anyOf c w : sProp 𝕄) ⊢ iprop(∃ f, w.view.loc (c : Thread nD τ) ↦[w.view.set]{fullShare} f) := .rfl

/-- Contents may be forgotten. -/
theorem has_any (X : s.Idx → Elt F e) : (has c w fullShare X : sProp 𝕄) ⊢ anyOf c w := by
  unfold anyOf
  iintro H
  ihave H := (has_open c w fullShare X) $$ H
  icases H with ⟨%f, -, H⟩
  iexists f; iexact H

/-- A piece splits into two half shares. -/
theorem has_split (X : s.Idx → Elt F e) :
    (has c w fullShare X : sProp 𝕄) ⊢ iprop(has c w fullShare.left X ∗ has c w fullShare.right X) := by
  iintro H
  ihave H := (has_open c w fullShare X) $$ H
  icases H with ⟨%f, %hf, H⟩
  subst hf
  ihave H := (pointsTo_share (PosShare.mem_left_op_right fullShare)).1 $$ H
  icases H with ⟨H1, H2⟩
  isplitl [H1]
  · iapply (owns_intro (c : Thread nD τ) w _ f) $$ H1
  · iapply (owns_intro (c : Thread nD τ) w _ f) $$ H2

/-- Two half shares join. -/
theorem has_join (X Y : s.Idx → Elt F e) :
    iprop(has c w fullShare.left X ∗ has c w fullShare.right Y) ⊢ (anyOf c w : sProp 𝕄) := by
  unfold anyOf
  iintro ⟨H1, H2⟩
  ihave H1 := (has_open c w _ X) $$ H1
  icases H1 with ⟨%f, -, H1⟩
  ihave H2 := (has_open c w _ Y) $$ H2
  icases H2 with ⟨%g, -, H2⟩
  ihave %h := (pointsTo_agree (ℓ := w.view.loc (c : Thread nD τ)) (I := w.view.set) (J := w.view.set)
    (q₁ := fullShare.left) (q₂ := fullShare.right) (f := f) (g := g)) $$ [H1 H2]
  · isplitl [H1] <;> iassumption
  iexists f
  iapply (pointsTo_share (PosShare.mem_left_op_right fullShare)).2
  isplitl [H1]; · iexact H1
  rw [pointsTo_congr (f := f) (g := g) fun i hi => (h i (Finset.mem_inter.mpr ⟨hi, hi⟩)).1]
  iexact H2

/-- A piece with an element is held once. -/
theorem any_any_false (h : w.view.set.Nonempty) : iprop(anyOf c w ∗ anyOf c w) ⊢ (False : sProp 𝕄) := by
  obtain ⟨i, hi⟩ := h
  unfold anyOf
  iintro ⟨⟨%f, H1⟩, %g, H2⟩
  iapply (pointsTo_full_full_false (ℓ := w.view.loc (c : Thread nD τ)) (I := w.view.set) (J := w.view.set) (f := f) (g := g) hi hi) $$ [H1 H2]
  isplitl [H1] <;> iassumption

end Pieces

/-! ## Loads and stores of slots -/

section Slots
variable (c : Dev nD) {cs : CoreSpace} {s : Shape} {e : EltTy} (M : Memref sig .tc cs s e) (r : Rect s)
  (hr : ∀ a, r.stride a = 1) (hq : r.shape.Squeezes S1024x1024)

/-- A load of a slot reads its contents. -/
theorem load_slot {α : Type} {hl : M.view.LoadsAt r.toLoadRect} {k : (r.shape.Idx → Elt F e) → TP F α} {Q : α → sProp 𝕄}
    (q : PosShare TreeShare) (X : S1024x1024.Idx → Elt F e) :
    (has c ((M.slice r hr).squeeze S1024x1024 hq) q X : sProp 𝕄)
      ⊢ iprop((has c ((M.slice r hr).squeeze S1024x1024 hq) q X -∗ run c (k (shapeCast r.shape X hq.numel_eq.symm)) Q)
        -∗ run c (.op (.load M r.toLoadRect hl) k) Q) := by
  iintro H Hk
  ihave H := (has_open c _ q X) $$ H
  icases H with ⟨%f, %hf, H⟩
  iapply (wp_load_rect 𝒱₀ (c : Thread nD τ) none Set.univ (m := M) (r := r) (q := q) (f := f)
    (S := ((M.slice r hr).squeeze S1024x1024 hq).view.set) (by rw [Memref.set_view_squeeze])) $$ H
  iintro H
  rw [show (M.access r).read (Elt F) f = shapeCast r.shape X hq.numel_eq.symm from by
    rw [← hf]; exact (shapeCast_shapeCast _ _ _).symm]
  iapply Hk
  iapply (show _ ⊢ (has c ((M.slice r hr).squeeze S1024x1024 hq) q X : sProp 𝕄) from
    (owns_intro (c : Thread nD τ) ((M.slice r hr).squeeze S1024x1024 hq) q f).trans (Entails.of_eq (by rw [hf]))) $$ H

/-- A load of a slot at any contents. -/
theorem load_any {α : Type} {hl : M.view.LoadsAt r.toLoadRect} {k : (r.shape.Idx → Elt F e) → TP F α} {Q : α → sProp 𝕄} :
    (anyOf c ((M.slice r hr).squeeze S1024x1024 hq) : sProp 𝕄)
      ⊢ iprop((∀ v, anyOf c ((M.slice r hr).squeeze S1024x1024 hq) -∗ run c (k v) Q)
        -∗ run c (.op (.load M r.toLoadRect hl) k) Q) := by
  iintro H Hk
  ihave H := (any_open c _) $$ H
  icases H with ⟨%f, H⟩
  iapply (wp_load_rect 𝒱₀ (c : Thread nD τ) none Set.univ (m := M) (r := r) (q := fullShare) (f := f)
    (S := ((M.slice r hr).squeeze S1024x1024 hq).view.set) (by rw [Memref.set_view_squeeze])) $$ H
  iintro H
  iapply Hk
  unfold anyOf
  iexists f; iexact H

/-- A store to a slot. -/
theorem store_slot {α : Type} {v : r.shape.Idx → Elt F e} {hx : (M.access r).Stores Finset.univ}
    {hm : (Finset.univ : Finset r.shape.Idx) = Finset.univ ∨ ∀ a, r.stride a = 1} {k : PUnit → TP F α} {Q : α → sProp 𝕄} :
    (anyOf c ((M.slice r hr).squeeze S1024x1024 hq) : sProp 𝕄)
      ⊢ iprop((has c ((M.slice r hr).squeeze S1024x1024 hq) fullShare (shapeCast S1024x1024 v hq.numel_eq) -∗ run c (k ⟨⟩) Q)
        -∗ run c (.op (.store M r v Finset.univ hx hm) k) Q) := by
  iintro H Hk
  ihave H := (any_open c _) $$ H
  icases H with ⟨%f, H⟩
  iapply (wp_store 𝒱₀ (c : Thread nD τ) none Set.univ (m := M) (r := r) (Mk := Finset.univ) (f := f)
    (S := ((M.slice r hr).squeeze S1024x1024 hq).view.set) (by rw [View.setOn_univ, Memref.set_view_squeeze])) $$ H
  iintro H
  iapply Hk
  iapply (show _ ⊢ (has c ((M.slice r hr).squeeze S1024x1024 hq) fullShare (shapeCast S1024x1024 v hq.numel_eq) : sProp 𝕄) from
    (owns_intro (c : Thread nD τ) ((M.slice r hr).squeeze S1024x1024 hq) fullShare ((M.access r).write (Elt F) f v Finset.univ)).trans
      (Entails.of_eq (by
        rw [show ((M.slice r hr).squeeze S1024x1024 hq).view.read (Elt F) ((M.access r).write (Elt F) f v Finset.univ)
          = shapeCast S1024x1024 ((M.access r).read (Elt F) ((M.access r).write (Elt F) f v Finset.univ)) hq.numel_eq from rfl,
          View.read_write_univ]))) $$ H

end Slots

end Cert.ReduceProof

end
-- ==== Proof.Moves.lean ====
/-
# The triples of the single operations

One triple for each operation of a step: the local loads and their waits, the two computations, the transfers to the
peers and the waits for them, the credits.
-/
module

public import proofs.«01_k».proof.Proof.Ops

@[expose] public section

set_option maxRecDepth 8000

noncomputable section

namespace Cert.ReduceProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-- What a device owes, whatever it waits on. -/
def oblig (c : Dev nD) (O : CellTallies nD τ sig ℕ) : sProp 𝕄 := iprop(∃ W, owes (c : Thread nD τ) O W)

theorem oblig_open (c : Dev nD) (O : CellTallies nD τ sig ℕ) :
    (oblig c O : sProp 𝕄) ⊢ iprop(∃ W, owes (c : Thread nD τ) O W) := .rfl

variable {m : (ℓ : Loc nD τ sig) → Buf (Elt F) ℓ}
variable {K : Dev nD × CK → ℕ} {Ks : Key → ℕ}

/-! ## Local copies -/

section Copy
variable (c : Dev nD) {sp sp' : Space} {s s' : Shape} {e e' : EltTy}

/-- A local copy starts: the source, the destination at any contents and the semaphore go into its flight. -/
theorem copy_start (src : Memref sig .tc sp s e) (dst : Memref sig .tc sp' s e) (sm : DmaSem sig)
    {h1 : src.view.WordExact} {h2 : dst.view.WordExact} {h3 : DmaTarget.Typed (nD := nD) (τ := τ) (p := .tc) sp (.dma sm) (.here dst)}
    (q : PosShare TreeShare) (X : s.Idx → Elt F e) (hN0 : 0 < dst.view.dmaCredit) :
    Tri m K Ks c iprop(has c src q X ∗ anyOf c dst ∗ semVal ((c : Thread nD τ), .dma sm) 0)
      (Prog.lift (.enqueueDma src (.here dst) (.dma sm) h1 h2 h3))
      (Transfers.Flight EC (c : Thread nD τ) (.dma sm) 0 dst.view.dmaCredit iprop(has c dst fullShare X ∗ has c src q X)) := by
  intro α k Q
  simp only [Prog.lift, Prog.bind_op, Prog.bind_ret, Prog.pure_eq_ret]
  iintro ⟨#HR, Hs, Hd, Hv⟩ Hk
  ihave Hs := (has_open c src q X) $$ Hs
  icases Hs with ⟨%f, %hf, Hs⟩
  ihave Hd := (any_open c dst) $$ Hd
  icases Hd with ⟨%g, Hd⟩
  iapply (Transfers.wp_dmaLocal EC 𝒱₀ (c : Thread nD τ) none 0 dst.view.dmaCredit rfl hN0 (subset_refl _)) $$ [Hs Hd Hv]
  · isplitl [Hs]; · iexact Hs
    isplitl [Hd] <;> iassumption
  iintro Hf
  iapply Hk
  iapply (Transfers.Flight_mono EC (c : Thread nD τ) (BI.sep_mono
    ((has_written c dst fullShare g (src.view.read (Elt F) f)).trans (Entails.of_eq (by rw [hf])))
    ((owns_intro (c : Thread nD τ) src q f).trans (Entails.of_eq (by rw [hf]))))) $$ Hf

/-- The wait for a local copy. -/
theorem copy_wait (sm : DmaSem sig) (src : Memref sig .tc sp' s' e') (dst : Memref sig .tc sp s e)
    {h1 : src.view.WordExact} {h2 : dst.view.WordExact} (D : sProp 𝕄) (hl : ∀ k, csem k ≠ .dma sm) (a b b' : ℕ) :
    Tri m K Ks c iprop(Transfers.Flight EC (c : Thread nD τ) (.dma sm) 0 dst.view.dmaCredit D ∗ oblig c (owe c a b b'))
      (Prog.lift (.waitDma2 sm src dst h1 h2))
      iprop((D ∗ semVal ((c : Thread nD τ), .dma sm) 0) ∗ oblig c (owe c a b b')) := by
  intro α k Q
  simp only [Prog.lift, Prog.bind_op, Prog.bind_ret, Prog.pure_eq_ret]
  iintro ⟨#HR, Hf, Ho⟩ Hk
  ihave Ho := (oblig_open c _) $$ Ho
  icases Ho with ⟨%W, Ho⟩
  iapply (Transfers.wp_waitLocalO EC 𝒱₀ (c : Thread nD τ) none 0 rfl) $$ [Hf Ho]
  · isplitl [Hf]; · iexact Hf
    isplitl [Ho]; · iexact Ho
    iapply (mayWait0 c _ (lv_local c 0 hl) a b b')
    iapply (recs_lev m K Ks); iexact HR
  iintro ⟨Hd, Hv, Ho⟩
  iapply Hk
  isplitl [Hd Hv]
  · isplitl [Hd] <;> iassumption
  unfold oblig; iexists _; iexact Ho

end Copy

/-! ## Waits on the shared semaphores -/

theorem kd_s1 (b : Fin 2) {r : ℕ} (h : r < 8) : kDuties (.s1 b) r = {0} := by unfold kDuties; exact if_pos h
theorem kd_s2 (b : Fin 2) {r : ℕ} (h : r < 8) : kDuties (.s2 b) r = {0} := by unfold kDuties; exact if_pos h
theorem kd_r1 (s : Fin 8) {r : ℕ} (h : r < 2) : kDuties (.r1 s) r = {0} := by unfold kDuties; exact if_pos h
theorem kd_r2 (k : Fin 16) : kDuties (.r2 k) 0 = {0} := by unfold kDuties; exact if_pos rfl

/-- The only duty of such a round. -/
theorem mem_duties (m : (ℓ : Loc nD τ sig) → Buf (Elt F) ℓ) (c : Dev nD) (k : CK) (r : ℕ) (h : kDuties k r = {0}) :
    (0 : Fin 8) ∈ (Rd (F := F) m).duties (kcell c k) r := by
  rw [duties_cell, h]; exact Finset.mem_singleton_self _

/-- A wait that completes a round with one duty. -/
theorem wait_cell (c : Dev nD) (k : CK) (s : DmaSem sig) (hs : csem k = .dma s) {sp sp' : Space} {t t' : Shape} {e e' : EltTy}
    (src : Memref sig .tc sp' t' e') (dst : Memref sig .tc sp t e) {h1 : src.view.WordExact} {h2 : dst.view.WordExact}
    (hN : dst.view.dmaCredit = NB) (r i n : ℕ) (hd : kDuties k r = {0}) (ha : kAmount k = NB) (hi : i < 16)
    (hl : kLev k i ≤ n) (a b b' : ℕ) (h₁ : n < 4 * a + 2 ∨ 16 ≤ a) (h₂ : n < 4 * b + 3 ∨ 8 ≤ b) (h₃ : n < 4 * b' + 3 ∨ 16 ≤ b') :
    Tri m K Ks c iprop((cred (tallyAt (kcell c k) i NB) ∗ atPos ER (kcell c k) r ∅ 0) ∗ oblig c (owe c a b b'))
      (Prog.lift (.waitDma2 s src dst h1 h2))
      iprop((kPay m c k r 0 ∗ atPos ER (kcell c k) (r + 1) ∅ 0 ∗ reached ER (kcell c k) (r + 1)) ∗ oblig c (owe c a b b')) := by
  intro α kk Q
  simp only [Prog.lift, Prog.bind_op, Prog.bind_ret, Prog.pure_eq_ret]
  have hcell : kcell c k = ((c : Thread nD τ), .dma s) := by unfold kcell; rw [hs]
  have hrest : bigSep ((Rd (F := F) m).duties ((c : Thread nD τ), .dma s) r \ ∅) (fun d => (Rd (F := F) m).payload ((c : Thread nD τ), .dma s) r d)
      = kPay m c k r 0 := by
    rw [← hcell, duties_cell, hd, Finset.sdiff_empty, bigSep_singleton, payload_cell]
  have hexp : 0 + dst.view.dmaCredit = (Rd (F := F) m).expect ((c : Thread nD τ), .dma s) r := by
    rw [← hcell, expect_cell, hd, ha, hN]; simp
  have hinv : recs (F := F) m K Ks ⊢ cellInv ER (Rd m) (K (c, k)) ((c : Thread nD τ), .dma s) := by
    rw [← hcell]; exact recs_inv m K Ks c k
  iintro ⟨#HR, ⟨Hc, Hat⟩, Ho⟩ Hk
  ihave Ho := (oblig_open c _) $$ Ho
  icases Ho with ⟨%W, Ho⟩
  ihave #Hinv := hinv $$ HR
  ihave #Hlev := (recs_lev m K Ks) $$ HR
  rw [hcell]
  iapply (Rounds.wp_wait_rest_token 𝒱₀ ER (Rd (F := F) m) (c : Thread nD τ) none (κ := K (c, k))
      (wpE_waitDma2_eq 𝒱₀ (c : Thread nD τ) none Set.univ) (Set.mem_univ _) i (O := owe c a b b') (W := W) (R := r) (m := 0) (T := ∅)
      hexp) $$ [Hc Ho Hat]
  · isplitr; · iexact Hinv
    isplitl [Hc]; · rw [hN]; iexact Hc
    isplitl [Ho]; · iexact Ho
    isplitr
    · iapply (mayWait c (.dma s) i n hi (by rw [← hs]; exact (lv_cell c k i).le.trans hl) a b b' h₁ h₂ h₃); iexact Hlev
    iexact Hat
  iintro ⟨Ho, Hat, Hre, Hp⟩
  iapply Hk
  isplitl [Hat Hre Hp]
  · isplitl [Hp]; · iapply (Entails.of_eq hrest); iexact Hp
    isplitl [Hat] <;> iassumption
  unfold oblig; iexists _; iexact Ho

/-! ## The loads of the argument and the copies to the own result -/

/-- A load of rows to send in flight. -/
abbrev flF (m : (ℓ : Loc nD τ sig) → Buf (Elt F) ℓ) (c : Dev nD) (j : ℕ) : sProp 𝕄 :=
  Transfers.Flight EC (c : Thread nD τ) (.dma (semLF (r3 j))) 0 (slF (r3 j)).view.dmaCredit
    iprop(has c (slF (r3 j)) fullShare (farV m c j) ∗ has c (xFar c (r16 j)) fullShare (farV m c j))
/-- A load of rows to keep in flight. -/
abbrev flK (m : (ℓ : Loc nD τ sig) → Buf (Elt F) ℓ) (c : Dev nD) (j : ℕ) : sProp 𝕄 :=
  Transfers.Flight EC (c : Thread nD τ) (.dma (semLK (r3 j))) 0 (slK (r3 j)).view.dmaCredit
    iprop(has c (slK (r3 j)) fullShare (ownV m c j) ∗ has c (xOwn c (r16 j)) fullShare (ownV m c j))
/-- A copy of finished rows to the own result in flight. -/
abbrev flST (m : (ℓ : Loc nD τ sig) → Buf (Elt F) ℓ) (c : Dev nD) (j : ℕ) : sProp 𝕄 :=
  Transfers.Flight EC (c : Thread nD τ) (.dma (semST (r2 j))) 0 (oOwn c (r16 j)).view.dmaCredit
    iprop(has c (oOwn c (r16 j)) fullShare (finV m c j) ∗ has c (slZ (r2 j)) fullShare.right (finV m c j))

variable (c : Dev nD)

theorem pos_chunk : 0 < S1024x1024.numel := by decide

theorem loadF_tri (j : ℕ) :
    Tri m K Ks c iprop(has c (xFar c (r16 j)) fullShare (farV m c j) ∗ anyOf c (slF (r3 j)) ∗ semVal ((c : Thread nD τ), .dma (semLF (r3 j))) 0)
      (loadF c j) (flF m c j) :=
  copy_start c _ _ _ fullShare _ (View.dmaCredit_pos _ pos_chunk)

theorem loadK_tri (j : ℕ) :
    Tri m K Ks c iprop(has c (xOwn c (r16 j)) fullShare (ownV m c j) ∗ anyOf c (slK (r3 j)) ∗ semVal ((c : Thread nD τ), .dma (semLK (r3 j))) 0)
      (loadK c j) (flK m c j) :=
  copy_start c _ _ _ fullShare _ (View.dmaCredit_pos _ pos_chunk)

theorem storeO_tri (j : ℕ) :
    Tri m K Ks c iprop(has c (slZ (r2 j)) fullShare.right (finV m c j) ∗ anyOf c (oOwn c (r16 j)) ∗ semVal ((c : Thread nD τ), .dma (semST (r2 j))) 0)
      (storeO c j) (flST m c j) :=
  copy_start c _ _ _ fullShare.right _ (View.dmaCredit_pos _ pos_chunk)

theorem waitF_tri (j a b b' : ℕ) :
    Tri m K Ks c iprop(flF m c j ∗ oblig c (owe c a b b')) (waitF c j)
      iprop(((has c (slF (r3 j)) fullShare (farV m c j) ∗ has c (xFar c (r16 j)) fullShare (farV m c j))
        ∗ semVal ((c : Thread nD τ), .dma (semLF (r3 j))) 0) ∗ oblig c (owe c a b b')) :=
  copy_wait c _ _ _ _ (LF_ne _) a b b'

theorem waitK_tri (j a b b' : ℕ) :
    Tri m K Ks c iprop(flK m c j ∗ oblig c (owe c a b b')) (waitK c j)
      iprop(((has c (slK (r3 j)) fullShare (ownV m c j) ∗ has c (xOwn c (r16 j)) fullShare (ownV m c j))
        ∗ semVal ((c : Thread nD τ), .dma (semLK (r3 j))) 0) ∗ oblig c (owe c a b b')) :=
  copy_wait c _ _ _ _ (LK_ne _) a b b'

theorem waitST_tri (j a b b' : ℕ) :
    Tri m K Ks c iprop(flST m c j ∗ oblig c (owe c a b b')) (waitST c j)
      iprop(((has c (oOwn c (r16 j)) fullShare (finV m c j) ∗ has c (slZ (r2 j)) fullShare.right (finV m c j))
        ∗ semVal ((c : Thread nD τ), .dma (semST (r2 j))) 0) ∗ oblig c (owe c a b b')) :=
  copy_wait c _ _ _ _ (ST_ne _) a b b'

/-! ## The computations -/

theorem compA_tri (j : ℕ) :
    Tri m K Ks c iprop(has c (slF (r3 j)) fullShare (farV m c j) ∗ anyOf c (slS (r2 j))) (compA j)
      iprop(has c (slF (r3 j)) fullShare (farV m c j) ∗ has c (slS (r2 j)) fullShare (sentV m c j)) := by
  intro α k Q
  unfold compA
  simp only [Prog.lift, Prog.bind_op, Prog.bind_ret, Prog.pure_eq_ret]
  iintro ⟨#HR, Hf, Hs⟩ Hk
  iapply (load_slot c bF (rect3 (r3 j)) (fun _ => rfl) squeezes_S1x1024x1024_S1024x1024 fullShare (farV m c j)) $$ Hf
  iintro Hf
  iapply (load_any c bS (rect2 (r2 j)) (fun _ => rfl) squeezes_S1x1024x1024_S1024x1024) $$ Hs
  iintro %v Hs
  iapply (store_slot c bS (rect2 (r2 j)) (fun _ => rfl) squeezes_S1x1024x1024_S1024x1024) $$ Hs
  iintro Hs
  iapply Hk
  isplitl [Hf]; · iexact Hf
  iexact Hs

theorem compB_tri (j : ℕ) :
    Tri m K Ks c iprop(has c (slK (r3 j)) fullShare (ownV m c j) ∗ has c (slR (r8 j)) fullShare (sentV m (xp c) j) ∗ anyOf c (slZ (r2 j))) (compB j)
      iprop(has c (slK (r3 j)) fullShare (ownV m c j) ∗ has c (slR (r8 j)) fullShare (sentV m (xp c) j)
        ∗ has c (slZ (r2 j)) fullShare (finV m c j)) := by
  intro α k Q
  unfold compB
  simp only [Prog.lift, Prog.bind_op, Prog.bind_ret, Prog.pure_eq_ret]
  iintro ⟨#HR, Hf, Hr, Hs⟩ Hk
  iapply (load_slot c bK (rect3 (r3 j)) (fun _ => rfl) squeezes_S1x1024x1024_S1024x1024 fullShare (ownV m c j)) $$ Hf
  iintro Hf
  iapply (load_slot c bR (rect8 (r8 j)) (fun _ => rfl) squeezes_S1x1024x1024_S1024x1024 fullShare (sentV m (xp c) j)) $$ Hr
  iintro Hr
  iapply (load_any c bZ (rect2 (r2 j)) (fun _ => rfl) squeezes_S1x1024x1024_S1024x1024) $$ Hs
  iintro %v Hs
  iapply (store_slot c bZ (rect2 (r2 j)) (fun _ => rfl) squeezes_S1x1024x1024_S1024x1024) $$ Hs
  iintro Hs
  iapply Hk
  isplitl [Hf]; · iexact Hf
  isplitl [Hr]; · iexact Hr
  iexact Hs

/-! ## The waits of the exchange -/

/-- The wait for a transfer at the sender, or at the receiver: what is needed. -/
abbrev waiting (c : Dev nD) (k : CK) (r i : ℕ) : sProp 𝕄 := iprop(cred (tallyAt (kcell c k) i NB) ∗ atPos ER (kcell c k) r ∅ 0)
/-- What such a wait leaves. -/
abbrev waited (m : (ℓ : Loc nD τ sig) → Buf (Elt F) ℓ) (c : Dev nD) (k : CK) (r : ℕ) : sProp 𝕄 :=
  iprop(kPay m c k r 0 ∗ atPos ER (kcell c k) (r + 1) ∅ 0 ∗ reached ER (kcell c k) (r + 1))

theorem waitS1_tri (j a b b' : ℕ) (hj : j < 16) :
    Tri m K Ks c iprop(waiting c (.s1 (r2 j)) (j / 2) 0 ∗ oblig c (owe c a b b')) (waitS1 j)
      iprop(waited m c (.s1 (r2 j)) (j / 2) ∗ oblig c (owe c a b b')) :=
  wait_cell c (.s1 (r2 j)) _ rfl (slR (r8 j)) (slS (r2 j)) rfl (j / 2) 0 0 (kd_s1 _ (by omega)) rfl (by decide) (le_refl _) a b b'
    (.inl (by omega)) (.inl (by omega)) (.inl (by omega))

theorem waitS2_tri (j a b b' : ℕ) (hj : j < 16) :
    Tri m K Ks c iprop(waiting c (.s2 (r2 j)) (j / 2) 0 ∗ oblig c (owe c a b b')) (waitS2 c j)
      iprop(waited m c (.s2 (r2 j)) (j / 2) ∗ oblig c (owe c a b b')) :=
  wait_cell c (.s2 (r2 j)) _ rfl (oOwn c (r16 j)) (slZ (r2 j)) rfl (j / 2) 0 0 (kd_s2 _ (by omega)) rfl (by decide) (le_refl _) a b b'
    (.inl (by omega)) (.inl (by omega)) (.inl (by omega))

theorem waitR1_tri (j a : ℕ) (hj : j < 16) (ha : j < a) :
    Tri m K Ks c iprop(waiting c (.r1 (r8 j)) (j / 8) j ∗ oblig c (owe c a j j)) (waitR1 j)
      iprop(waited m c (.r1 (r8 j)) (j / 8) ∗ oblig c (owe c a j j)) :=
  wait_cell c (.r1 (r8 j)) _ rfl (slS (r2 j)) (slR (r8 j)) rfl (j / 8) j (4 * j + 2) (kd_r1 _ (by omega)) rfl hj (le_refl _) a j j
    (.inl (by omega)) (.inl (by omega)) (.inl (by omega))

theorem waitR2_tri (j a b : ℕ) (hj : j < 16) (ha : j < a) (hb : j < b) :
    Tri m K Ks c iprop(waiting c (.r2 (r16 j)) 0 j ∗ oblig c (owe c a b b)) (waitR2 c j)
      iprop(waited m c (.r2 (r16 j)) 0 ∗ oblig c (owe c a b b)) :=
  wait_cell c (.r2 (r16 j)) _ rfl (slZ (r2 j)) (oFar c (r16 j)) rfl 0 j (4 * j + 3) (kd_r2 _) rfl hj (le_refl _) a b b
    (.inl (by omega)) (.inl (by omega)) (.inl (by omega))

/-! ## The transfers -/

theorem slice_congr {r r' : Rect S32768x1024} (h : r = r') (p : ∀ a, r.stride a = 1) (p' : ∀ a, r'.stride a = 1)
    (c : Dev nD) (X : r.shape.Idx → Elt F .bf16) (X' : r'.shape.Idx → Elt F .bf16) (hX : HEq X X') :
    has c (bO.slice r p) fullShare X = has c (bO.slice r' p') fullShare X' := by
  subst h; cases hX; rfl

/-- The rows a device receives are those its peer along the last axis finishes. -/
theorem has_oFar_zp (d : Dev nD) (k : Fin 16) (X : Vec F S1024x1024 .bf16) :
    (has d (oFar (zp c) k) fullShare X : sProp 𝕄) = has d (oOwn c k) fullShare X :=
  slice_congr (rectFar_zp c k) _ _ d X X HEq.rfl

/-- The tokens of a transfer of device `c` that completes round `r` of its semaphore `k` and round `r'` of `d`'s `k'`. -/
abbrev tokens (c : Dev nD) (k : CK) (r : ℕ) (d : Dev nD) (k' : CK) (r' : ℕ) : sProp 𝕄 :=
  iprop((dutyTok ER (kcell c k) r 0 ∗ reached ER (kcell c k) r) ∗ (dutyTok ER (kcell d k') r' 0 ∗ reached ER (kcell d k') r'))

theorem sendX_tri (n : Dev nD) (hn : n = xp c) (j b b' : ℕ) (hj : j < 16) :
    Tri m K Ks c iprop((has c (slS (r2 j)) fullShare (sentV m c j) ∗ anyOf (xp c) (slR (r8 j))
        ∗ tokens c (.s1 (r2 j)) (j / 2) (xp c) (.r1 (r8 j)) (j / 8)) ∗ oblig c (owe c j b b'))
      (sendX n j) iprop(cred (tallyAt (kcell c (.s1 (r2 j))) 0 NB) ∗ oblig c (owe c (j + 1) b b')) := by
  subst hn
  intro α k Q
  unfold sendX
  simp only [Prog.lift, Prog.bind_op, Prog.bind_ret, Prog.pure_eq_ret]
  iintro ⟨#HR, ⟨Hs, Hd, ⟨⟨Ht, Hr⟩, Ht', Hr'⟩⟩, Ho⟩ Hk
  ihave Ho := (oblig_open c _) $$ Ho
  icases Ho with ⟨%W, Ho⟩
  ihave #Hi := (recs_inv m K Ks c (.s1 (r2 j))) $$ HR
  ihave #Hi' := (recs_inv m K Ks (xp c) (.r1 (r8 j))) $$ HR
  ihave Hs := (has_open c _ fullShare _) $$ Hs
  icases Hs with ⟨%f, %hf, Hs⟩
  ihave Hd := (any_open (xp c) _) $$ Hd
  icases Hd with ⟨%g, Hd⟩
  iapply (Rounds.wp_send_pointsTo 𝒱₀ ER (Rd (F := F) m) (c : Thread nD τ) none (c' := (xp c : Thread nD τ))
    (κ₁ := K (c, .s1 (r2 j))) (κ₂ := K (xp c, .r1 (r8 j)))
    (src := slS (r2 j)) (dst := slR (r8 j)) (sS := .dma (semS1 (r2 j))) (sem := .dma (semR1 (r8 j)))
    (r₁ := j / 2) (r₂ := j / 8) (d₁ := 0) (d₂ := 0) (fs := f) (fd := g)
    (mem_duties m c (.s1 (r2 j)) (j / 2) (kd_s1 _ (by omega)))
    (mem_duties m (xp c) (.r1 (r8 j)) (j / 8) (kd_r1 _ (by omega)))
    j 0 NB rfl (amount_cell m c (.s1 (r2 j)) (j / 2) 0) (amount_cell m (xp c) (.r1 (r8 j)) (j / 8) 0) (owe c (j + 1) b b') (owe_a c j b b' hj) (W := W)
    (by
      refine BIBase.Entails.trans ?_ (Entails.of_eq (payload_cell m c (.s1 (r2 j)) (j / 2) 0).symm)
      show _ ⊢ anyOf c (slS (r2 j))
      unfold anyOf
      iintro H; iexists f; iexact H)
    (by
      refine BIBase.Entails.trans ?_ (Entails.of_eq (payload_cell m (xp c) (.r1 (r8 j)) (j / 8) 0).symm)
      show _ ⊢ has (xp c) (slR (r8 j)) fullShare (sentV m (xp (xp c)) (8 * (j / 8) + (j % 8)))
      rw [xp_xp, show 8 * (j / 8) + j % 8 = j from Nat.div_add_mod j 8, ← hf]
      exact has_written (xp c) (slR (r8 j)) fullShare g _)) $$ [Hs Hd Ht Hr Ht' Hr' Ho]
  · isplitr; · iexact Hi
    isplitr; · iexact Hi'
    isplitl [Hs]; · iexact Hs
    isplitl [Hd]; · iexact Hd
    isplitl [Ho]; · iexact Ho
    isplitl [Ht]; · iexact Ht
    isplitl [Hr]; · iexact Hr
    isplitl [Ht']; · iexact Ht'
    iexact Hr'
  iintro ⟨Hc, Ho⟩
  iapply Hk
  isplitl [Hc]; · iexact Hc
  unfold oblig; iexists _; iexact Ho

theorem sendZ_tri (n : Dev nD) (hn : n = zp c) (j a b : ℕ) (hj : j < 16) :
    Tri m K Ks c iprop((has c (slZ (r2 j)) fullShare.left (finV m c j) ∗ anyOf (zp c) (oOwn c (r16 j))
        ∗ tokens c (.s2 (r2 j)) (j / 2) (zp c) (.r2 (r16 j)) 0) ∗ oblig c (owe c a b j))
      (sendZ c n j) iprop(cred (tallyAt (kcell c (.s2 (r2 j))) 0 NB) ∗ oblig c (owe c a b (j + 1))) := by
  subst hn
  intro α k Q
  unfold sendZ
  simp only [Prog.lift, Prog.bind_op, Prog.bind_ret, Prog.pure_eq_ret]
  iintro ⟨#HR, ⟨Hs, Hd, ⟨⟨Ht, Hr⟩, Ht', Hr'⟩⟩, Ho⟩ Hk
  ihave Ho := (oblig_open c _) $$ Ho
  icases Ho with ⟨%W, Ho⟩
  ihave #Hi := (recs_inv m K Ks c (.s2 (r2 j))) $$ HR
  ihave #Hi' := (recs_inv m K Ks (zp c) (.r2 (r16 j))) $$ HR
  ihave Hs := (has_open c _ _ _) $$ Hs
  icases Hs with ⟨%f, %hf, Hs⟩
  ihave Hd := (any_open (zp c) _) $$ Hd
  icases Hd with ⟨%g, Hd⟩
  iapply (Rounds.wp_send_pointsTo 𝒱₀ ER (Rd (F := F) m) (c : Thread nD τ) none (c' := (zp c : Thread nD τ))
    (κ₁ := K (c, .s2 (r2 j))) (κ₂ := K (zp c, .r2 (r16 j)))
    (src := slZ (r2 j)) (dst := oOwn c (r16 j)) (sS := .dma (semS2 (r2 j))) (sem := .dma (semR2 (r16 j)))
    (r₁ := j / 2) (r₂ := 0) (d₁ := 0) (d₂ := 0) (fs := f) (fd := g)
    (mem_duties m c (.s2 (r2 j)) (j / 2) (kd_s2 _ (by omega)))
    (mem_duties m (zp c) (.r2 (r16 j)) 0 (kd_r2 _))
    j 0 NB rfl (amount_cell m c (.s2 (r2 j)) (j / 2) 0) (amount_cell m (zp c) (.r2 (r16 j)) 0 0) (owe c a b (j + 1)) (owe_b' c a b j hj) (W := W)
    (by
      refine BIBase.Entails.trans ?_ (Entails.of_eq (payload_cell m c (.s2 (r2 j)) (j / 2) 0).symm)
      show _ ⊢ has c (slZ (r2 j)) fullShare.left (finV m c (2 * (j / 2) + (j % 2)))
      rw [show 2 * (j / 2) + j % 2 = j from Nat.div_add_mod j 2, ← hf]
      exact owns_intro (c : Thread nD τ) (slZ (r2 j)) _ f)
    (by
      refine BIBase.Entails.trans ?_ (Entails.of_eq (payload_cell m (zp c) (.r2 (r16 j)) 0 0).symm)
      show _ ⊢ has (zp c) (oFar (zp c) (r16 j)) fullShare (finV m (zp (zp c)) (j % 16))
      rw [zp_zp, Nat.mod_eq_of_lt hj, ← hf]
      rw [has_oFar_zp]
      exact has_written (zp c) (oOwn c (r16 j)) fullShare g _)) $$ [Hs Hd Ht Hr Ht' Hr' Ho]
  · isplitr; · iexact Hi
    isplitr; · iexact Hi'
    isplitl [Hs]; · iexact Hs
    isplitl [Hd]; · iexact Hd
    isplitl [Ho]; · iexact Ho
    isplitl [Ht]; · iexact Ht
    isplitl [Hr]; · iexact Hr
    isplitl [Ht']; · iexact Ht'
    iexact Hr'
  iintro ⟨Hc, Ho⟩
  iapply Hk
  isplitl [Hc]; · iexact Hc
  unfold oblig; iexists _; iexact Ho

end Cert.ReduceProof

end
-- ==== Proof.Credits.lean ====
/-
# The triples of the credits and of the handshake

The wait for a credit and the giving of one, and the handshake at the barrier, by which the peers hand each other the
places that they will write.
-/
module

public import proofs.«01_k».proof.Proof.Moves
public import Idealize.SL.BI.BigOpNat

@[expose] public section

set_option maxRecDepth 8000

noncomputable section

namespace Cert.ReduceProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable {m : (ℓ : Loc nD τ sig) → Buf (Elt F) ℓ}
variable {K : Dev nD × CK → ℕ} {Ks : Key → ℕ}
variable (c : Dev nD)

/-! ## Credits -/

/-- The credits after `i` waits: some `i` of the peer's credits have been seen, and each says which slots are free. -/
def creditSt (m : (ℓ : Loc nD τ sig) → Buf (Elt F) ℓ) (c : Dev nD) (i : ℕ) : sProp 𝕄 :=
  iprop(∃ T : Finset (Fin 8), ⌜i ≤ T.card⌝ ∗ atPos ER (kcell c .cr) 0 T i ∗ (bigSep T fun d => kPay m c .cr 0 d)
    ∗ bigSep (Finset.Ico i 8) fun j => cred (tallyAt (kcell c .cr) j 1))

theorem creditSt_open (i : ℕ) : creditSt m c i ⊢ iprop(∃ T : Finset (Fin 8), ⌜i ≤ T.card⌝ ∗ atPos ER (kcell c .cr) 0 T i
    ∗ (bigSep T fun d => kPay m c .cr 0 d) ∗ bigSep (Finset.Ico i 8) fun j => cred (tallyAt (kcell c .cr) j 1)) := .rfl

/-- The meaning of a credit: the slots up to its number are free. -/
theorem credit_frees (T : Finset (Fin 8)) (i : ℕ) (h : i < T.card) :
    (bigSep T fun d => kPay m c .cr 0 d) ⊢ (slotFree (xp c) i : sProp 𝕄) := by
  have hd : ∃ d ∈ T, i ≤ d.val := by
    by_contra hn
    have h' : T.card ≤ (Finset.range i).card :=
      Finset.card_le_card_of_injOn (fun d => d.val) (fun d hd => by
        rw [Finset.mem_coe, Finset.mem_range]; by_contra hc; exact hn ⟨d, hd, Nat.le_of_not_lt hc⟩) (fun _ _ _ _ e => Fin.ext e)
    rw [Finset.card_range] at h'; omega
  obtain ⟨d, hd, hi⟩ := hd
  exact (pick hd (fun d => kPay (F := F) m c .cr 0 d)).trans
    (pick (Finset.mem_range.mpr (Nat.lt_succ_of_le hi)) (fun i => slotFree (F := F) (xp c) i))

instance kPay_cr_persistent (d : Fin 8) : BI.Persistent (kPay (F := F) m c .cr 0 d) := by
  dsimp only [kPay]; infer_instance

/-- The schedule's entries at a semaphore given by its place. -/
theorem dut (d : Dev nD) (k : CK) (r : ℕ) {sm : SemLoc sig} (hs : csem k = sm) :
    (Rd (F := F) m).duties ((d : Thread nD τ), sm) r = kDuties k r := by subst hs; exact duties_cell m d k r
theorem pay (d : Dev nD) (k : CK) (r : ℕ) (i : Fin 8) {sm : SemLoc sig} (hs : csem k = sm) :
    (Rd (F := F) m).payload ((d : Thread nD τ), sm) r i = kPay m d k r i := by subst hs; exact payload_cell m d k r i
theorem expct (d : Dev nD) (k : CK) (r : ℕ) {sm : SemLoc sig} (hs : csem k = sm) :
    (Rd (F := F) m).expect ((d : Thread nD τ), sm) r = (kDuties k r).card * kAmount k := by subst hs; exact expect_cell m d k r

theorem kd_cr : kDuties .cr 0 = Finset.univ := by unfold kDuties; exact if_pos rfl
theorem kd_bar : kDuties .bar 0 = {0, 1} := by unfold kDuties; exact if_pos rfl

/-- The wait for a credit says that the slot of its number is free. -/
theorem waitCr_tri (i a b b' : ℕ) (hi : i < 8) (ha : i < a) (hb : i < b) (hb' : i < b') :
    Tri m K Ks c iprop(creditSt m c i ∗ oblig c (owe c a b b')) (semWaitWord semCr 1#32)
      iprop((creditSt m c (i + 1) ∗ slotFree (xp c) i) ∗ oblig c (owe c a b b')) := by
  intro α k Q
  show _ ⊢ iprop(_ -∗ run c (.op (.semWait semCr ((1 : ℕ) : ℤ)) k) Q)
  iintro ⟨#HR, Hcr, Ho⟩ Hk
  ihave Ho := (oblig_open c _) $$ Ho
  icases Ho with ⟨%W, Ho⟩
  ihave Hcr := (creditSt_open c i) $$ Hcr
  icases Hcr with ⟨%T, %hT, Hat, #HT, Hc⟩
  ihave Hc := (Entails.of_eq (bigSep_Ico_succ_bot hi (fun j => (cred (tallyAt (kcell c .cr) j 1) : sProp 𝕄)))) $$ Hc
  icases Hc with ⟨Hc1, Hc⟩
  ihave #Hi := (recs_inv m K Ks c .cr) $$ HR
  iapply (Rounds.wp_wait 𝒱₀ ER (Rd (F := F) m) (c : Thread nD τ) none (κ := K (c, .cr)) (k' := 1)
      (wpE_semWait_eq 𝒱₀ (c : Thread nD τ) none Set.univ) (Set.mem_univ _) (cr := Finsupp.single i 1) {((SemLoc.reg semCr : SemLoc sig), i)}
      (O := owe c a b b') (W := W) (R := 0) (m := i) (T := T) (Util.total_single _ _) (image_single_subset _ i 1)) $$ [Hc1 Ho Hat]
  · isplitr; · iexact Hi
    isplitl [Hc1]; · iexact Hc1
    isplitl [Ho]; · iexact Ho
    isplitr
    · iapply (mayWait c (.reg semCr) i (4 * i + 3) (by omega) (lv_cell c .cr i).le a b b' (.inl (by omega)) (.inl (by omega)) (.inl (by omega)))
      iapply (recs_lev m K Ks); iexact HR
    iexact Hat
  iintro %S ⟨%hS, Ho, Hat, Hp⟩
  have hcard : i < S.card := by
    obtain ⟨-, h2, h3⟩ := hS
    rw [show (Rd (F := F) m).expect ((c : Thread nD τ), .reg semCr) 0 = 8 from by
        rw [expct c .cr 0 (sm := .reg semCr) rfl, kd_cr]; rfl,
      show (Rd (F := F) m).duties ((c : Thread nD τ), .reg semCr) 0 = Finset.univ from by rw [dut c .cr 0 (sm := .reg semCr) rfl, kd_cr],
      ← Finset.compl_eq_univ_sdiff, Finset.card_compl, Fintype.card_fin] at h3
    have := S.card_le_univ; rw [Fintype.card_fin] at this
    omega
  ihave #HS := (show iprop((bigSep T fun d => kPay m c .cr 0 d) ∗ bigSep (S \ T) fun d => (Rd (F := F) m).payload ((c : Thread nD τ), .reg semCr) 0 d)
      ⊢ bigSep S fun d => kPay (F := F) m c .cr 0 d from by
    rw [show (bigSep (S \ T) fun d => (Rd (F := F) m).payload ((c : Thread nD τ), .reg semCr) 0 d)
        = bigSep (S \ T) fun d => kPay (F := F) m c .cr 0 d from bigSep_congr fun d _ => payload_cell m c .cr 0 d]
    refine Entails.of_eq ?_
    show BI.sep _ _ = _
    rw [← bigSep_union Finset.disjoint_sdiff, Finset.union_sdiff_of_subset hS.1]) $$ [Hp]
  · isplitr; · iexact HT
    iexact Hp
  ihave #Hfree := (credit_frees c S i hcard) $$ HS
  iapply Hk
  isplitl [Hat Hc]
  · isplitl
    · unfold creditSt
      iexists S
      isplitr; · ipureintro; exact hcard
      isplitl [Hat]; · iexact Hat
      isplitr; · iexact HS
      iexact Hc
    · iexact Hfree
  unfold oblig; iexists _; iexact Ho

/-- A credit given: the slots up to its number are free. -/
theorem giveCr_tri (n : Dev nD) (hn : n = xp c) (j a b' : ℕ) (hj : j < 8) :
    Tri m K Ks c iprop((dutyTok ER (kcell (xp c) .cr) 0 (r8 j) ∗ bigSep (Finset.range (j + 1)) (fun i => slotFree c i)) ∗ oblig c (owe c a j b'))
      (semSignalWord n semCr 1#32) (oblig c (owe c a (j + 1) b')) := by
  subst hn
  intro α k Q
  show _ ⊢ iprop(_ -∗ run c (.op (.semSignal (xp c : Thread nD τ) semCr ((1 : ℕ) : ℤ)) k) Q)
  iintro ⟨#HR, ⟨Ht, Hf⟩, Ho⟩ Hk
  ihave Ho := (oblig_open c _) $$ Ho
  icases Ho with ⟨%W, Ho⟩
  ihave #Hi := (recs_inv m K Ks (xp c) .cr) $$ HR
  ihave #Hr := (recs_reached m K Ks (xp c) .cr) $$ HR
  iapply (Rounds.wp_signal 𝒱₀ ER (Rd (F := F) m) (c : Thread nD τ) none (dst := (xp c : Thread nD τ)) (κ := K (xp c, .cr)) (k' := 1)
      (d := r8 j) (by rw [dut (xp c) .cr 0 (sm := .reg semCr) rfl, kd_cr]; exact Finset.mem_univ _) (amount_cell m (xp c) .cr 0 (r8 j)) j
      (owe c a (j + 1) b') (owe_b c a j b' hj)) $$ [Ho Ht Hf]
  · isplitr; · iexact Hi
    isplitl [Ho]; · iexact Ho
    isplitl [Ht]; · iexact Ht
    isplitl [Hf]
    · iapply (show (bigSep (Finset.range (j + 1)) (fun i => slotFree c i) : sProp 𝕄) ⊢ (Rd (F := F) m).payload ((xp c : Thread nD τ), .reg semCr) 0 (r8 j) from by
        rw [pay (xp c) .cr 0 (r8 j) (sm := .reg semCr) rfl]
        show _ ⊢ bigSep (Finset.range (j % 8 + 1)) fun i => slotFree (xp (xp c)) i
        rw [xp_xp, Nat.mod_eq_of_lt hj]) $$ Hf
    iexact Hr
  iintro Ho
  iapply Hk
  unfold oblig; iexists _; iexact Ho

/-! ## The handshake -/

/-- A device's receive slots. -/
abbrev slots (c : Dev nD) : sProp 𝕄 := bigSep (Finset.range 8) fun i => anyOf c (slR (r8 i))
/-- The rows of the result at `d` that `c` finishes. -/
abbrev rows (d c : Dev nD) : sProp 𝕄 := bigSep (Finset.range 16) fun i => anyOf d (oOwn c (r16 i))

/-- The handshake: the own receive slots and rows go to the peers, and the peers' come. -/
theorem stepH_tri :
    Tri m K Ks c iprop((dutyTok ER (kcell (xp c) .bar) 0 0 ∗ dutyTok ER (kcell (zp c) .bar) 0 1 ∗ slots c ∗ rows c (zp c)
        ∗ cred (tallyAt (kcell c .bar) 0 2) ∗ atPos ER (kcell c .bar) 0 ∅ 0) ∗ oblig c (owe0 c))
      (stepH c) iprop((slots (xp c) ∗ rows (zp c) c ∗ atPos ER (kcell c .bar) 1 ∅ 0) ∗ oblig c (owe c 0 0 0)) := by
  intro α k Q
  unfold stepH
  rw [dev1_eq, dev2_eq]
  show _ ⊢ iprop(_ -∗ run c (.op (.semSignal (xp c : Thread nD τ) semBar ((1 : ℕ) : ℤ)) fun _ =>
    .op (.semSignal (zp c : Thread nD τ) semBar ((1 : ℕ) : ℤ)) fun _ => .op (.semWait semBar ((2 : ℕ) : ℤ)) k) Q)
  iintro ⟨#HR, ⟨Ht, Ht', Hs, Hrw, Hc, Hat⟩, Ho⟩ Hk
  ihave Ho := (oblig_open c _) $$ Ho
  icases Ho with ⟨%W, Ho⟩
  ihave #Hi := (recs_inv m K Ks (xp c) .bar) $$ HR
  ihave #Hr := (recs_reached m K Ks (xp c) .bar) $$ HR
  iapply (Rounds.wp_signal 𝒱₀ ER (Rd (F := F) m) (c : Thread nD τ) none (dst := (xp c : Thread nD τ)) (κ := K (xp c, .bar)) (k' := 1)
      (d := 0) (by rw [dut (xp c) .bar 0 (sm := .reg semBar) rfl, kd_bar]; decide) (amount_cell m (xp c) .bar 0 0) 0
      (owe c 0 0 0 + tallyAt (kcell (zp c) .bar) 0 1) rfl) $$ [Ho Ht Hs]
  · isplitr; · iexact Hi
    isplitl [Ho]; · iexact Ho
    isplitl [Ht]; · iexact Ht
    isplitl [Hs]
    · iapply (show (slots c : sProp 𝕄) ⊢ (Rd (F := F) m).payload ((xp c : Thread nD τ), .reg semBar) 0 0 from by
        rw [pay (xp c) .bar 0 0 (sm := .reg semBar) rfl]
        show _ ⊢ slots (xp (xp c))
        rw [xp_xp]) $$ Hs
    iexact Hr
  iintro Ho
  ihave #Hi' := (recs_inv m K Ks (zp c) .bar) $$ HR
  ihave #Hr' := (recs_reached m K Ks (zp c) .bar) $$ HR
  iapply (Rounds.wp_signal 𝒱₀ ER (Rd (F := F) m) (c : Thread nD τ) none (dst := (zp c : Thread nD τ)) (κ := K (zp c, .bar)) (k' := 1)
      (d := 1) (by rw [dut (zp c) .bar 0 (sm := .reg semBar) rfl, kd_bar]; decide) (amount_cell m (zp c) .bar 0 1) 0
      (owe c 0 0 0) rfl) $$ [Ho Ht' Hrw]
  · isplitr; · iexact Hi'
    isplitl [Ho]; · iexact Ho
    isplitl [Ht']; · iexact Ht'
    isplitl [Hrw]
    · iapply (show (rows c (zp c) : sProp 𝕄) ⊢ (Rd (F := F) m).payload ((zp c : Thread nD τ), .reg semBar) 0 1 from by
        rw [pay (zp c) .bar 0 1 (sm := .reg semBar) rfl]
        show _ ⊢ rows (zp (zp c)) (zp c)
        rw [zp_zp]) $$ Hrw
    iexact Hr'
  iintro Ho
  ihave #Hi'' := (recs_inv m K Ks c .bar) $$ HR
  iapply (Rounds.wp_wait_rest_token 𝒱₀ ER (Rd (F := F) m) (c : Thread nD τ) none (κ := K (c, .bar)) (k' := 2)
      (wpE_semWait_eq 𝒱₀ (c : Thread nD τ) none Set.univ) (Set.mem_univ _) 0 (O := owe c 0 0 0) (W := W) (R := 0) (m := 0) (T := ∅)
      (by rw [expct c .bar 0 (sm := .reg semBar) rfl, kd_bar]; rfl)) $$ [Hc Ho Hat]
  · isplitr; · iexact Hi''
    isplitl [Hc]; · iexact Hc
    isplitl [Ho]; · iexact Ho
    isplitr
    · iapply (mayWait c (.reg semBar) 0 1 (by omega) (lv_cell c .bar 0).le 0 0 0 (.inl (by omega)) (.inl (by omega)) (.inl (by omega)))
      iapply (recs_lev m K Ks); iexact HR
    iexact Hat
  iintro ⟨Ho, Hat, -, Hp⟩
  ihave Hp := (show (bigSep ((Rd (F := F) m).duties ((c : Thread nD τ), .reg semBar) 0 \ ∅) fun d => (Rd (F := F) m).payload ((c : Thread nD τ), .reg semBar) 0 d)
      ⊢ iprop(slots (xp c) ∗ rows (zp c) c) from by
    rw [show (Rd (F := F) m).duties ((c : Thread nD τ), .reg semBar) 0 = insert 0 {1} from by rw [dut c .bar 0 (sm := .reg semBar) rfl, kd_bar],
      Finset.sdiff_empty, bigSep_insert (by decide), bigSep_singleton,
      show (Rd (F := F) m).payload ((c : Thread nD τ), .reg semBar) 0 0 = slots (xp c) from payload_cell m c .bar 0 0,
      show (Rd (F := F) m).payload ((c : Thread nD τ), .reg semBar) 0 1 = rows (zp c) c from payload_cell m c .bar 0 1]
    exact .rfl) $$ Hp
  icases Hp with ⟨Hs, Hrw⟩
  iapply Hk
  isplitl [Hs Hrw Hat]
  · isplitl [Hs]; · iexact Hs
    isplitl [Hrw]; · iexact Hrw
    iexact Hat
  unfold oblig; iexists _; iexact Ho

end Cert.ReduceProof

end
-- ==== Proof.StepA.lean ====
/-
# The step that rounds a chunk and sends it

What the step `stepA` of a chunk needs and leaves (`APart`), and its triple.
-/
module

public import proofs.«01_k».proof.Proof.Credits

@[expose] public section

set_option maxRecDepth 8000

noncomputable section

namespace Cert.ReduceProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable {m : (ℓ : Loc nD τ sig) → Buf (Elt F) ℓ}
variable {K : Dev nD × CK → ℕ} {Ks : Key → ℕ}
variable (c : Dev nD)

/-! ## Slot numbers -/

theorem r2_sub {j : ℕ} (h : 2 ≤ j) : r2 (j - 2) = r2 j := Fin.ext (by show (j - 2) % 2 = j % 2; omega)
theorem r2_add (j : ℕ) : r2 (j + 2) = r2 j := Fin.ext (by show (j + 2) % 2 = j % 2; omega)
theorem r3_add (j : ℕ) : r3 (j + 3) = r3 j := Fin.ext (by show (j + 3) % 3 = j % 3; omega)
theorem r8_add (j : ℕ) : r8 (j + 8) = r8 j := Fin.ext (by show (j + 8) % 8 = j % 8; omega)
theorem r8_sub {j : ℕ} (h : 8 ≤ j) : r8 (j - 8) = r8 j := Fin.ext (by show (j - 8) % 8 = j % 8; omega)

/-- A run over numbers with its first or its last number set apart. -/
theorem ico_bot {a b : ℕ} (h : a < b) (A : ℕ → sProp 𝕄) : bigSep (Finset.Ico a b) A ⊢ iprop(A a ∗ bigSep (Finset.Ico (a + 1) b) A) :=
  Entails.of_eq (bigSep_Ico_succ_bot h A)
theorem ico_top {a b : ℕ} (h : a ≤ b) (A : ℕ → sProp 𝕄) : iprop(A b ∗ bigSep (Finset.Ico a b) A) ⊢ bigSep (Finset.Ico a (b + 1)) A :=
  Entails.of_eq (bigSep_Ico_succ_top h A).symm
theorem range_top (n : ℕ) (A : ℕ → sProp 𝕄) : iprop(A n ∗ bigSep (Finset.range n) A) ⊢ bigSep (Finset.range (n + 1)) A :=
  Entails.of_eq (bigSep_range_succ n A).symm
theorem ico_none {a b : ℕ} (h : b ≤ a) (A : ℕ → sProp 𝕄) : bigSep (Finset.Ico a b) A = iprop(emp) := by
  rw [Finset.Ico_eq_empty_of_le h]; exact bigSep_empty

/-! ## What the step uses -/

/-- Chunk `j`'s rows of the argument, in the half to send. -/
abbrev xrowF (m : (ℓ : Loc nD τ sig) → Buf (Elt F) ℓ) (c : Dev nD) (j : ℕ) : sProp 𝕄 := has c (xFar c (r16 j)) fullShare (farV m c j)
/-- An idle load slot. -/
abbrev idleF (c : Dev nD) (j : ℕ) : sProp 𝕄 := iprop(anyOf c (slF (r3 j)) ∗ semVal ((c : Thread nD τ), .dma (semLF (r3 j))) 0)
/-- The load slot that chunk `n` uses: its load in flight, or, past the last chunk, idle. -/
def flyF (m : (ℓ : Loc nD τ sig) → Buf (Elt F) ℓ) (c : Dev nD) (n : ℕ) : sProp 𝕄 := if n < 16 then flF m c n else idleF c n
/-- The slot of rounded rows that chunk `n` uses: idle at first, then with a transfer to be waited for. -/
def slotX (c : Dev nD) (n : ℕ) : sProp 𝕄 :=
  if n < 2 then iprop(anyOf c (slS (r2 n)) ∗ atPos ER (kcell c (.s1 (r2 n))) 0 ∅ 0) else waiting c (.s1 (r2 n)) ((n - 2) / 2) 0
/-- The right to write the receive slot of chunk `j`: at first the slot itself, then a token for it. -/
def spot (c : Dev nD) (j : ℕ) : sProp 𝕄 := if j < 8 then anyOf (xp c) (slR (r8 j)) else writeTok ES (xp c, r8 j) 1
/-- What sending chunk `j` needs. -/
abbrev kitA (c : Dev nD) (j : ℕ) : sProp 𝕄 :=
  iprop(dutyTok ER (kcell c (.s1 (r2 j))) (j / 2) 0 ∗ dutyTok ER (kcell (xp c) (.r1 (r8 j))) (j / 8) 0 ∗ spot c j)

/-- All that the steps of rounding and sending hold after `a` of them. -/
def APart (m : (ℓ : Loc nD τ sig) → Buf (Elt F) ℓ) (c : Dev nD) (a : ℕ) : sProp 𝕄 :=
  iprop(bigSep (Finset.range a) (xrowF m c) ∗ bigSep (Finset.Ico (a + 3) 16) (xrowF m c)
    ∗ flyF m c a ∗ flyF m c (a + 1) ∗ flyF m c (a + 2) ∗ slotX c a ∗ slotX c (a + 1)
    ∗ bigSep (Finset.Ico a 16) (kitA c) ∗ creditSt m c (a - 8))

/-! ## The parts of the step -/

/-- The slot of rounded rows becomes free. -/
theorem partS1 (j a b b' : ℕ) (hj : j < 18) :
    Tri m K Ks c iprop(slotX c j ∗ oblig c (owe c a b b')) (if 2 ≤ j then waitS1 (j - 2) else pure ⟨⟩)
      iprop((anyOf c (slS (r2 j)) ∗ atPos ER (kcell c (.s1 (r2 j))) (j / 2) ∅ 0 ∗ reached ER (kcell c (.s1 (r2 j))) (j / 2))
        ∗ oblig c (owe c a b b')) := by
  unfold slotX
  by_cases h : 2 ≤ j
  · rw [if_pos h, if_neg (by omega : ¬ j < 2), ← r2_sub h]
    refine Tri.post (waitS1_tri c (j - 2) a b b' (by omega)) ?_
    unfold waited
    rw [show (j - 2) / 2 + 1 = j / 2 by omega]
    iintro ⟨-, H⟩
    imodintro
    iexact H
  · rw [if_neg h, if_pos (by omega : j < 2), show j / 2 = 0 by omega]
    refine Tri.post (Tri.skip _) ?_
    iintro ⟨#HR, ⟨Ha, Hp⟩, Ho⟩
    imodintro
    isplitl [Ha Hp]
    · isplitl [Ha]; · iexact Ha
      isplitl [Hp]; · iexact Hp
      iapply (recs_reached m K Ks c (.s1 (r2 j))); iexact HR
    iexact Ho

/-- The receive slot of chunk `j` at the peer may be written. -/
theorem partCr (j b b' : ℕ) (hj : j < 16) (hb : j < b + 8) (hb' : j < b' + 8) :
    Tri m K Ks c iprop((spot c j ∗ creditSt m c (j - 8)) ∗ oblig c (owe c j b b')) (if 8 ≤ j then semWaitWord semCr 1#32 else pure ⟨⟩)
      iprop((anyOf (xp c) (slR (r8 j)) ∗ reached ER (kcell (xp c) (.r1 (r8 j))) (j / 8) ∗ creditSt m c (j + 1 - 8))
        ∗ oblig c (owe c j b b')) := by
  unfold spot
  by_cases h : 8 ≤ j
  · rw [if_pos h, if_neg (by omega : ¬ j < 8), show j + 1 - 8 = j - 8 + 1 by omega, show j / 8 = 1 by omega, ← r8_sub h]
    refine Tri.conseq (P := iprop((creditSt m c (j - 8) ∗ oblig c (owe c j b b')) ∗ writeTok ES (xp c, r8 (j - 8)) 1)) (Tri.post
      (Tri.frame (waitCr_tri c (j - 8) j b b' (by omega) (by omega) (by omega) (by omega)) (writeTok ES (xp c, r8 (j - 8)) 1)) ?_) ?_ (Entails.of_eq rfl)
    · unfold slotFree
      iintro ⟨#HR, ⟨⟨Hc, Hrel, Hre⟩, Ho⟩, Hw⟩
      ihave #Hs := (recs_sinv m K Ks (xp c, r8 (j - 8))) $$ HR
      imod (slot_take ES (Set.mem_univ (Ks (xp c, r8 (j - 8)))) 1) $$ [Hrel Hw] with Hx
      · isplitr; · iexact Hs
        isplitl [Hrel]; · iexact Hrel
        iexact Hw
      imodintro
      isplitl [Hc Hre Hx]
      · isplitl [Hx]; · iexact Hx
        isplitl [Hre]; · iexact Hre
        iexact Hc
      iexact Ho
    · iintro ⟨-, ⟨Hw, Hc⟩, Ho⟩
      imodintro
      isplitl [Hc Ho]
      · isplitl [Hc]; · iexact Hc
        iexact Ho
      iexact Hw
  · rw [if_neg h, if_pos (by omega : j < 8), show j + 1 - 8 = j - 8 by omega, show j / 8 = 0 by omega]
    refine Tri.post (Tri.skip _) ?_
    iintro ⟨#HR, ⟨Ha, Hp⟩, Ho⟩
    imodintro
    isplitl [Ha Hp]
    · isplitl [Ha]; · iexact Ha
      isplitr; · iapply (recs_reached m K Ks (xp c) (.r1 (r8 j))); iexact HR
      iexact Hp
    iexact Ho

/-- The next load into a load slot just used. -/
theorem partLF (j : ℕ) :
    Tri m K Ks c iprop(idleF c j ∗ bigSep (Finset.Ico (j + 3) 16) (xrowF m c)) (if j < 13 then loadF c (j + 3) else pure ⟨⟩)
      iprop(flyF m c (j + 3) ∗ bigSep (Finset.Ico (j + 1 + 3) 16) (xrowF m c)) := by
  unfold flyF
  by_cases h : j < 13
  · rw [if_pos h, if_pos (by omega : j + 3 < 16)]
    refine Tri.conseq (Tri.frame (loadF_tri c (j + 3)) (bigSep (Finset.Ico (j + 1 + 3) 16) (xrowF m c))) ?_ (Entails.of_eq rfl)
    rw [r3_add]
    iintro ⟨-, ⟨Ha, Hv⟩, Hx⟩
    ihave Hx := (ico_bot (by omega : j + 3 < 16) (xrowF m c)) $$ Hx
    icases Hx with ⟨H1, Hx⟩
    imodintro
    isplitr [Hx]
    · isplitl [H1]; · iexact H1
      isplitl [Ha]; · iexact Ha
      iexact Hv
    iexact Hx
  · rw [if_neg h, if_neg (by omega : ¬ j + 3 < 16), ico_none (by omega : 16 ≤ j + 3), ico_none (by omega : 16 ≤ j + 1 + 3)]
    refine Tri.post (Tri.skip _) ?_
    unfold idleF
    rw [r3_add]
    iintro ⟨-, H⟩
    imodintro
    iexact H

/-! ## The step -/

/-- The step as its parts, one after another. -/
theorem stepA_parts (j : ℕ) : stepA (F := F) c j
    = ((if 2 ≤ j then waitS1 (j - 2) else pure ⟨⟩) >>= fun _ => waitF c j >>= fun _ => compA j >>= fun _ =>
        (if 8 ≤ j then semWaitWord semCr 1#32 else pure ⟨⟩) >>= fun _ => sendX (devX c j) j >>= fun _ =>
        (if j < 13 then loadF c (j + 3) else pure ⟨⟩)) := by
  unfold stepA
  split_ifs <;> rfl

/-- Chunk `j` rounded and sent. -/
theorem stepA_tri (j b b' : ℕ) (hj : j < 16) (hb : j < b + 8) (hb' : j < b' + 8) :
    Tri m K Ks c iprop(APart m c j ∗ oblig c (owe c j b b')) (stepA c j) iprop(APart m c (j + 1) ∗ oblig c (owe c (j + 1) b b')) := by
  intro α k Q
  rw [stepA_parts]
  simp only [Prog.bind_assoc]
  unfold APart
  iintro ⟨#HR, ⟨Hx, Hy, Hf0, Hf1, Hf2, Hs0, Hs1, Hkit, Hcr⟩, Ho⟩ Hk
  ihave Hkit := (ico_bot hj (kitA c)) $$ Hkit
  icases Hkit with ⟨⟨Ht1, Ht2, Hspot⟩, Hkit⟩
  iapply (Tri.at (partS1 c j j b b' (by omega)) _ Q) $$ [Hs0 Ho]
  · isplitr; · iexact HR
    isplitl [Hs0]; · iexact Hs0
    iexact Ho
  iintro ⟨⟨Ha, Hat, Hre⟩, Ho⟩
  ihave Hf0 := (show flyF m c j ⊢ flF m c j from Entails.of_eq (if_pos hj)) $$ Hf0
  iapply (Tri.at (waitF_tri c j j b b') _ Q) $$ [Hf0 Ho]
  · isplitr; · iexact HR
    isplitl [Hf0]; · iexact Hf0
    iexact Ho
  iintro ⟨⟨⟨HF, Hxr⟩, Hv⟩, Ho⟩
  iapply (Tri.at (compA_tri c j) _ Q) $$ [HF Ha]
  · isplitr; · iexact HR
    isplitl [HF]; · iexact HF
    iexact Ha
  iintro ⟨HF, Hsl⟩
  iapply (Tri.at (partCr c j b b' hj hb hb') _ Q) $$ [Hspot Hcr Ho]
  · isplitr; · iexact HR
    isplitr [Ho]
    · isplitl [Hspot]; · iexact Hspot
      iexact Hcr
    iexact Ho
  iintro ⟨⟨Hd, Hre2, Hcr⟩, Ho⟩
  iapply (Tri.at (sendX_tri c (devX c j) (devX_eq c j hj) j b b' hj) _ Q) $$ [Hsl Hd Ht1 Hre Ht2 Hre2 Ho]
  · isplitr; · iexact HR
    isplitr [Ho]
    · isplitl [Hsl]; · iexact Hsl
      isplitl [Hd]; · iexact Hd
      isplitl [Ht1 Hre]
      · isplitl [Ht1]; · iexact Ht1
        iexact Hre
      isplitl [Ht2]; · iexact Ht2
      iexact Hre2
    iexact Ho
  iintro ⟨Hcred, Ho⟩
  iapply (Tri.at (partLF c j) k Q) $$ [HF Hv Hy]
  · isplitr; · iexact HR
    isplitr [Hy]
    · isplitl [HF]; · iapply (has_any c _ _); iexact HF
      iexact Hv
    iexact Hy
  iintro ⟨Hf3, Hy⟩
  iapply Hk
  isplitr [Ho]
  · isplitl [Hx Hxr]
    · iapply (range_top j (xrowF m c))
      isplitl [Hxr]; · iexact Hxr
      iexact Hx
    isplitl [Hy]; · iexact Hy
    isplitl [Hf1]; · iexact Hf1
    isplitl [Hf2]; · iexact Hf2
    isplitl [Hf3]; · iexact Hf3
    isplitl [Hs1]; · iexact Hs1
    isplitl [Hcred Hat]
    · iapply (show waiting c (.s1 (r2 j)) (j / 2) 0 ⊢ slotX c (j + 1 + 1) from Entails.of_eq (by
        unfold slotX; rw [if_neg (by omega : ¬ j + 1 + 1 < 2), r2_add, show j + 1 + 1 - 2 = j by omega]))
      isplitl [Hcred]; · iexact Hcred
      iexact Hat
    isplitl [Hkit]; · iexact Hkit
    iexact Hcr
  iexact Ho

end Cert.ReduceProof

end
-- ==== Proof.StepB.lean ====
/-
# The step that adds a received chunk and hands it on

What the step `stepB` of a chunk needs and leaves (`BPart`), and its triple.
-/
module

public import proofs.«01_k».proof.Proof.StepA

@[expose] public section

set_option maxRecDepth 8000

noncomputable section

namespace Cert.ReduceProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable {m : (ℓ : Loc nD τ sig) → Buf (Elt F) ℓ}
variable {K : Dev nD × CK → ℕ} {Ks : Key → ℕ}
variable (c : Dev nD)

/-! ## What the step uses -/

/-- Chunk `j`'s rows of the argument, in the half to keep. -/
abbrev xrowK (m : (ℓ : Loc nD τ sig) → Buf (Elt F) ℓ) (c : Dev nD) (j : ℕ) : sProp 𝕄 := has c (xOwn c (r16 j)) fullShare (ownV m c j)
/-- An idle load slot. -/
abbrev idleK (c : Dev nD) (j : ℕ) : sProp 𝕄 := iprop(anyOf c (slK (r3 j)) ∗ semVal ((c : Thread nD τ), .dma (semLK (r3 j))) 0)
/-- The load slot that chunk `n` uses: its load in flight, or, past the last chunk, idle. -/
def flyK (m : (ℓ : Loc nD τ sig) → Buf (Elt F) ℓ) (c : Dev nD) (n : ℕ) : sProp 𝕄 := if n < 16 then flK m c n else idleK c n
/-- The slot of finished rows that chunk `n` uses: idle at first, then with a transfer and a copy to be waited for. -/
def slotZ (m : (ℓ : Loc nD τ sig) → Buf (Elt F) ℓ) (c : Dev nD) (n : ℕ) : sProp 𝕄 :=
  if n < 2 then iprop(anyOf c (slZ (r2 n)) ∗ atPos ER (kcell c (.s2 (r2 n))) 0 ∅ 0 ∗ semVal ((c : Thread nD τ), .dma (semST (r2 n))) 0)
  else iprop(waiting c (.s2 (r2 n)) ((n - 2) / 2) 0 ∗ flST m c (n - 2))
/-- Chunk `j`'s finished rows in the own result. -/
abbrev done (m : (ℓ : Loc nD τ sig) → Buf (Elt F) ℓ) (c : Dev nD) (j : ℕ) : sProp 𝕄 := has c (oOwn c (r16 j)) fullShare (finV m c j)
/-- What receiving and handing on chunk `j` needs. -/
abbrev kitB (c : Dev nD) (j : ℕ) : sProp 𝕄 :=
  iprop(dutyTok ER (kcell c (.s2 (r2 j))) (j / 2) 0 ∗ dutyTok ER (kcell (zp c) (.r2 (r16 j))) 0 0
    ∗ anyOf (zp c) (oOwn c (r16 j)) ∗ anyOf c (oOwn c (r16 j)) ∗ cred (tallyAt (kcell c (.r1 (r8 j))) j NB))
/-- Where the semaphore of chunk `j`'s receive slot stands. -/
abbrev rpos (c : Dev nD) (j : ℕ) : sProp 𝕄 := atPos ER (kcell c (.r1 (r8 j))) (j / 8) ∅ 0
/-- The right to free receive slot `j`, and to signal it. -/
abbrev freeing (c : Dev nD) (j : ℕ) : sProp 𝕄 := iprop(readerAt ES (c, r8 j) 0 ∗ dutyTok ER (kcell (xp c) .cr) 0 (r8 j))

/-- All that the steps of adding and handing on hold after `b` of them. -/
def BPart (m : (ℓ : Loc nD τ sig) → Buf (Elt F) ℓ) (c : Dev nD) (b : ℕ) : sProp 𝕄 :=
  iprop(bigSep (Finset.range b) (xrowK m c) ∗ bigSep (Finset.Ico (b + 3) 16) (xrowK m c)
    ∗ flyK m c b ∗ flyK m c (b + 1) ∗ flyK m c (b + 2) ∗ slotZ m c b ∗ slotZ m c (b + 1)
    ∗ bigSep (Finset.range (b - 2)) (done m c)
    ∗ bigSep (Finset.Ico b 16) (kitB c) ∗ bigSep (Finset.Ico b (b + 8)) (rpos c)
    ∗ bigSep (Finset.Ico b 8) (freeing c) ∗ bigSep (Finset.range (min b 8)) (fun i => slotFree c i)
    ∗ bigSep (Finset.Ico 8 b) (fun i => anyOf c (slR (r8 i))))

/-! ## The parts of the step -/

/-- The slot of finished rows becomes free, and the rows it held are in the own result. -/
theorem partS2 (j a b b' : ℕ) (hj : j < 18) :
    Tri m K Ks c iprop((slotZ m c j ∗ bigSep (Finset.range (j - 2)) (done m c)) ∗ oblig c (owe c a b b'))
      (if 2 ≤ j then (waitS2 c (j - 2) >>= fun _ => waitST c (j - 2)) else pure ⟨⟩)
      iprop((anyOf c (slZ (r2 j)) ∗ atPos ER (kcell c (.s2 (r2 j))) (j / 2) ∅ 0 ∗ reached ER (kcell c (.s2 (r2 j))) (j / 2)
        ∗ semVal ((c : Thread nD τ), .dma (semST (r2 j))) 0 ∗ bigSep (Finset.range (j + 1 - 2)) (done m c)) ∗ oblig c (owe c a b b')) := by
  unfold slotZ
  by_cases h : 2 ≤ j
  · rw [if_pos h, if_neg (by omega : ¬ j < 2), ← r2_sub h]
    intro k Q
    simp only [Prog.bind_assoc]
    iintro ⟨#HR, ⟨⟨Hw, Hf⟩, Hd⟩, Ho⟩ Hk
    iapply (Tri.at (waitS2_tri c (j - 2) a b b' (by omega)) _ Q) $$ [Hw Ho]
    · isplitr; · iexact HR
      isplitl [Hw]; · iexact Hw
      iexact Ho
    iintro ⟨⟨Hz1, Hat, Hre⟩, Ho⟩
    iapply (Tri.at (waitST_tri c (j - 2) a b b') k Q) $$ [Hf Ho]
    · isplitr; · iexact HR
      isplitl [Hf]; · iexact Hf
      iexact Ho
    iintro ⟨⟨⟨Hr, Hz2⟩, Hv⟩, Ho⟩
    iapply Hk
    isplitr [Ho]
    · isplitl [Hz1 Hz2]
      · iapply (has_join c (slZ (r2 (j - 2))) (finV m c (2 * ((j - 2) / 2) + (r2 (j - 2)).val)) (finV m c (j - 2)))
        isplitl [Hz1]
        · iapply (show kPay m c (.s2 (r2 (j - 2))) ((j - 2) / 2) 0
            ⊢ has c (slZ (r2 (j - 2))) fullShare.left (finV m c (2 * ((j - 2) / 2) + (r2 (j - 2)).val)) from Entails.of_eq rfl)
          iexact Hz1
        iexact Hz2
      rw [show j / 2 = (j - 2) / 2 + 1 by omega, show j + 1 - 2 = (j - 2) + 1 by omega]
      isplitl [Hat]; · iexact Hat
      isplitl [Hre]; · iexact Hre
      isplitl [Hv]; · iexact Hv
      iapply (range_top (j - 2) (done m c))
      isplitl [Hr]; · iexact Hr
      iexact Hd
    iexact Ho
  · rw [if_neg h, if_pos (by omega : j < 2), show j / 2 = 0 by omega, show j + 1 - 2 = j - 2 by omega]
    refine Tri.post (Tri.skip _) ?_
    iintro ⟨#HR, ⟨⟨Ha, Hp, Hv⟩, Hd⟩, Ho⟩
    imodintro
    isplitr [Ho]
    · isplitl [Ha]; · iexact Ha
      isplitl [Hp]; · iexact Hp
      isplitr; · iapply (recs_reached m K Ks c (.s2 (r2 j))); iexact HR
      isplitl [Hv]; · iexact Hv
      iexact Hd
    iexact Ho

/-- The receive slot of the chunk is freed and the peer told, or, in the later chunks, kept. -/
theorem partGive (j a b' : ℕ) :
    Tri m K Ks c iprop((anyOf c (slR (r8 j)) ∗ reached ER (kcell c (.r1 (r8 j))) (j / 8 + 1) ∗ bigSep (Finset.Ico j 8) (freeing c)
          ∗ bigSep (Finset.range (min j 8)) (fun i => slotFree c i) ∗ bigSep (Finset.Ico 8 j) (fun i => anyOf c (slR (r8 i))))
        ∗ oblig c (owe c a j b'))
      (if j < 8 then semSignalWord (devC c j) semCr 1#32 else pure ⟨⟩)
      iprop((bigSep (Finset.Ico (j + 1) 8) (freeing c) ∗ bigSep (Finset.range (min (j + 1) 8)) (fun i => slotFree c i)
          ∗ bigSep (Finset.Ico 8 (j + 1)) (fun i => anyOf c (slR (r8 i))))
        ∗ oblig c (owe c a (j + 1) b')) := by
  by_cases h : j < 8
  · rw [if_pos h, show min j 8 = j by omega, show min (j + 1) 8 = j + 1 by omega, ico_none (by omega : j ≤ 8), ico_none (by omega : j + 1 ≤ 8),
      show j / 8 + 1 = 1 by omega]
    refine Tri.conseq (P := iprop(((dutyTok ER (kcell (xp c) .cr) 0 (r8 j) ∗ bigSep (Finset.range (j + 1)) (fun i => slotFree c i))
        ∗ oblig c (owe c a j b')) ∗ (bigSep (Finset.Ico (j + 1) 8) (freeing c) ∗ bigSep (Finset.range (j + 1)) (fun i => slotFree c i))))
      (Tri.frame (giveCr_tri c (devC c j) (devC_eq c j h) j a b' h) _) ?_ ?_
    · iintro ⟨#HR, ⟨Hs, Hre, Hf, #Hfree, -⟩, Ho⟩
      ihave Hf := (ico_bot h (freeing c)) $$ Hf
      icases Hf with ⟨⟨Hrd, Ht⟩, Hf⟩
      ihave #Hsi := (recs_sinv m K Ks (c, r8 j)) $$ HR
      imod (slot_release ES (Set.mem_univ (Ks (c, r8 j))) (any_any_false c (slR (r8 j)) (View.set_nonempty pos_chunk)) 0) $$ [Hrd Hs] with H
      · isplitr; · iexact Hsi
        isplitl [Hrd]; · iexact Hrd
        iexact Hs
      icases H with ⟨-, #Hrel⟩
      icases Hre with #Hre
      ihave #Hall := (range_top j (fun i => slotFree c i)) $$ []
      · isplitl
        · unfold slotFree
          isplitl; · iexact Hrel
          iexact Hre
        iexact Hfree
      imodintro
      isplitl [Ht Ho]
      · isplitl [Ht]
        · isplitl [Ht]; · iexact Ht
          iexact Hall
        iexact Ho
      isplitl [Hf]; · iexact Hf
      iexact Hall
    · iintro ⟨Ho, Hf, Ha⟩
      isplitl [Hf Ha]
      · isplitl [Hf]; · iexact Hf
        isplitl [Ha]; · iexact Ha
        iempintro
      iexact Ho
  · rw [if_neg h, show min j 8 = 8 by omega, show min (j + 1) 8 = 8 by omega, ico_none (by omega : 8 ≤ j), ico_none (by omega : 8 ≤ j + 1),
      owe_b8 c a j b' (by omega)]
    refine Tri.post (Tri.skip _) ?_
    iintro ⟨-, ⟨Hs, -, -, Hfree, Hr⟩, Ho⟩
    imodintro
    isplitr [Ho]
    · isplitr; · iempintro
      isplitl [Hfree]; · iexact Hfree
      iapply (ico_top (by omega : 8 ≤ j) (fun i => anyOf c (slR (r8 i))))
      isplitl [Hs]; · iexact Hs
      iexact Hr
    iexact Ho

/-- The next load into a load slot just used. -/
theorem partLK (j : ℕ) :
    Tri m K Ks c iprop(idleK c j ∗ bigSep (Finset.Ico (j + 3) 16) (xrowK m c)) (if j < 13 then loadK c (j + 3) else pure ⟨⟩)
      iprop(flyK m c (j + 3) ∗ bigSep (Finset.Ico (j + 1 + 3) 16) (xrowK m c)) := by
  unfold flyK
  by_cases h : j < 13
  · rw [if_pos h, if_pos (by omega : j + 3 < 16)]
    refine Tri.conseq (Tri.frame (loadK_tri c (j + 3)) (bigSep (Finset.Ico (j + 1 + 3) 16) (xrowK m c))) ?_ (Entails.of_eq rfl)
    rw [r3_add]
    iintro ⟨-, ⟨Ha, Hv⟩, Hx⟩
    ihave Hx := (ico_bot (by omega : j + 3 < 16) (xrowK m c)) $$ Hx
    icases Hx with ⟨H1, Hx⟩
    imodintro
    isplitr [Hx]
    · isplitl [H1]; · iexact H1
      isplitl [Ha]; · iexact Ha
      iexact Hv
    iexact Hx
  · rw [if_neg h, if_neg (by omega : ¬ j + 3 < 16), ico_none (by omega : 16 ≤ j + 3), ico_none (by omega : 16 ≤ j + 1 + 3)]
    refine Tri.post (Tri.skip _) ?_
    unfold idleK
    rw [r3_add]
    iintro ⟨-, H⟩
    imodintro
    iexact H

/-! ## The step -/

/-- The step as its parts, one after another. -/
theorem stepB_parts (j : ℕ) : stepB (F := F) c j
    = ((if 2 ≤ j then (waitS2 c (j - 2) >>= fun _ => waitST c (j - 2)) else pure ⟨⟩) >>= fun _ => waitR1 j >>= fun _ => waitK c j >>= fun _ =>
        compB j >>= fun _ => (if j < 8 then semSignalWord (devC c j) semCr 1#32 else pure ⟨⟩) >>= fun _ => sendZ c (devZ c j) j >>= fun _ =>
        storeO c j >>= fun _ => (if j < 13 then loadK c (j + 3) else pure ⟨⟩)) := by
  unfold stepB
  split_ifs <;> rfl

/-- Chunk `j` received, added, sent to the other peer and written out. -/
theorem stepB_tri (j a : ℕ) (hj : j < 16) (ha : j < a) :
    Tri m K Ks c iprop(BPart m c j ∗ oblig c (owe c a j j)) (stepB c j) iprop(BPart m c (j + 1) ∗ oblig c (owe c a (j + 1) (j + 1))) := by
  intro α k Q
  rw [stepB_parts]
  rw [Prog.bind_assoc]
  unfold BPart
  iintro ⟨#HR, ⟨Hx, Hy, Hf0, Hf1, Hf2, Hs0, Hs1, Hd, Hkit, Hpos, Hfr, Hfree, Hr⟩, Ho⟩ Hk
  ihave Hkit := (ico_bot hj (kitB c)) $$ Hkit
  icases Hkit with ⟨⟨Ht1, Ht2, Hfar, Hown, Hcr⟩, Hkit⟩
  ihave Hpos := (ico_bot (by omega : j < j + 8) (rpos c)) $$ Hpos
  icases Hpos with ⟨Hp, Hpos⟩
  iapply (Tri.at (partS2 c j a j j (by omega)) _ Q) $$ [Hs0 Hd Ho]
  · isplitr; · iexact HR
    isplitr [Ho]
    · isplitl [Hs0]; · iexact Hs0
      iexact Hd
    iexact Ho
  iintro ⟨⟨Hz, Hat, Hre, Hst, Hd⟩, Ho⟩
  simp only [Prog.bind_assoc]
  iapply (Tri.at (waitR1_tri c j a hj ha) _ Q) $$ [Hcr Hp Ho]
  · isplitr; · iexact HR
    isplitr [Ho]
    · isplitl [Hcr]; · iexact Hcr
      iexact Hp
    iexact Ho
  iintro ⟨⟨Hsl, Hp, Hre1⟩, Ho⟩
  ihave Hsl := (show kPay m c (.r1 (r8 j)) (j / 8) 0 ⊢ has c (slR (r8 j)) fullShare (sentV m (xp c) j) from
    Entails.of_eq (congrArg (fun n => (has c (slR (r8 j)) fullShare (sentV m (xp c) n) : sProp 𝕄))
      (show 8 * (j / 8) + j % 8 = j by omega))) $$ Hsl
  ihave Hf0 := (show flyK m c j ⊢ flK m c j from Entails.of_eq (if_pos hj)) $$ Hf0
  iapply (Tri.at (waitK_tri c j a j j) _ Q) $$ [Hf0 Ho]
  · isplitr; · iexact HR
    isplitl [Hf0]; · iexact Hf0
    iexact Ho
  iintro ⟨⟨⟨HK, Hxr⟩, Hv⟩, Ho⟩
  iapply (Tri.at (compB_tri c j) _ Q) $$ [HK Hsl Hz]
  · isplitr; · iexact HR
    isplitl [HK]; · iexact HK
    isplitl [Hsl]; · iexact Hsl
    iexact Hz
  iintro ⟨HK, Hsl, Hz⟩
  iapply (Tri.at (partGive c j a j) _ Q) $$ [Hsl Hre1 Hfr Hfree Hr Ho]
  · isplitr; · iexact HR
    isplitr [Ho]
    · isplitl [Hsl]; · iapply (has_any c _ _); iexact Hsl
      isplitl [Hre1]; · iexact Hre1
      isplitl [Hfr]; · iexact Hfr
      isplitl [Hfree]; · iexact Hfree
      iexact Hr
    iexact Ho
  iintro ⟨⟨Hfr, Hfree, Hr⟩, Ho⟩
  ihave Hz := (has_split c (slZ (r2 j)) (finV m c j)) $$ Hz
  icases Hz with ⟨Hz1, Hz2⟩
  iapply (Tri.at (sendZ_tri c (devZ c j) (devZ_eq c j hj) j a (j + 1) hj) _ Q) $$ [Hz1 Hfar Ht1 Hre Ht2 Ho]
  · isplitr; · iexact HR
    isplitr [Ho]
    · isplitl [Hz1]; · iexact Hz1
      isplitl [Hfar]; · iexact Hfar
      isplitl [Ht1 Hre]
      · isplitl [Ht1]; · iexact Ht1
        iexact Hre
      isplitl [Ht2]; · iexact Ht2
      iapply (recs_reached m K Ks (zp c) (.r2 (r16 j))); iexact HR
    iexact Ho
  iintro ⟨Hcred, Ho⟩
  iapply (Tri.at (storeO_tri c j) _ Q) $$ [Hz2 Hown Hst]
  · isplitr; · iexact HR
    isplitl [Hz2]; · iexact Hz2
    isplitl [Hown]; · iexact Hown
    iexact Hst
  iintro Hfly
  iapply (Tri.at (partLK c j) k Q) $$ [HK Hv Hy]
  · isplitr; · iexact HR
    isplitr [Hy]
    · isplitl [HK]; · iapply (has_any c _ _); iexact HK
      iexact Hv
    iexact Hy
  iintro ⟨Hf3, Hy⟩
  iapply Hk
  isplitr [Ho]
  · isplitl [Hx Hxr]
    · iapply (range_top j (xrowK m c))
      isplitl [Hxr]; · iexact Hxr
      iexact Hx
    isplitl [Hy]; · iexact Hy
    isplitl [Hf1]; · iexact Hf1
    isplitl [Hf2]; · iexact Hf2
    isplitl [Hf3]; · iexact Hf3
    isplitl [Hs1]; · iexact Hs1
    isplitl [Hcred Hat Hfly]
    · iapply (show iprop(waiting c (.s2 (r2 j)) (j / 2) 0 ∗ flST m c j) ⊢ slotZ m c (j + 1 + 1) from Entails.of_eq (by
        unfold slotZ; rw [if_neg (by omega : ¬ j + 1 + 1 < 2), r2_add, show j + 1 + 1 - 2 = j by omega]))
      isplitr [Hfly]
      · isplitl [Hcred]; · iexact Hcred
        iexact Hat
      iexact Hfly
    isplitl [Hd]; · iexact Hd
    isplitl [Hkit]; · iexact Hkit
    isplitl [Hp Hpos]
    · rw [show j + 1 + 8 = (j + 8) + 1 by omega]
      iapply (ico_top (by omega : j + 1 ≤ j + 8) (rpos c))
      isplitl [Hp]
      · iapply (show atPos ER (kcell c (.r1 (r8 j))) (j / 8 + 1) ∅ 0 ⊢ (rpos c (j + 8) : sProp 𝕄) from Entails.of_eq (by
          unfold rpos; rw [r8_add, show (j + 8) / 8 = j / 8 + 1 by omega]))
        iexact Hp
      iexact Hpos
    isplitl [Hfr]; · iexact Hfr
    isplitl [Hfree]; · iexact Hfree
    iexact Hr
  iexact Ho

end Cert.ReduceProof

end
-- ==== Proof.Body.lean ====
/-
# The whole body

The remaining steps, and the triple of all steps in their order: from what a device starts with (`Start`) to what it ends
with (`End`).
-/
module

public import proofs.«01_k».proof.Proof.StepB

@[expose] public section

set_option maxRecDepth 8000

noncomputable section

namespace Cert.ReduceProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable {m : (ℓ : Loc nD τ sig) → Buf (Elt F) ℓ}
variable {K : Dev nD × CK → ℕ} {Ks : Key → ℕ}
variable (c : Dev nD)

/-! ## Waiting for the rows of the other half -/

/-- A chunk of the other half still to come. -/
abbrev coming (c : Dev nD) (j : ℕ) : sProp 𝕄 := waiting c (.r2 (r16 j)) 0 j
/-- A chunk of the other half that has come. -/
abbrev came (m : (ℓ : Loc nD τ sig) → Buf (Elt F) ℓ) (c : Dev nD) (j : ℕ) : sProp 𝕄 := waited m c (.r2 (r16 j)) 0

/-- All that the waits for the other half hold after `d` of them. -/
def CPart (m : (ℓ : Loc nD τ sig) → Buf (Elt F) ℓ) (c : Dev nD) (d : ℕ) : sProp 𝕄 :=
  iprop(bigSep (Finset.Ico d 16) (coming c) ∗ bigSep (Finset.range d) (came m c))

theorem stepC_tri (j a b : ℕ) (hj : j < 16) (ha : j < a) (hb : j < b) :
    Tri m K Ks c iprop(CPart m c j ∗ oblig c (owe c a b b)) (stepC c j) iprop(CPart m c (j + 1) ∗ oblig c (owe c a b b)) := by
  intro α k Q
  unfold stepC CPart
  iintro ⟨#HR, ⟨Hw, Hd⟩, Ho⟩ Hk
  ihave Hw := (ico_bot hj (coming c)) $$ Hw
  icases Hw with ⟨H1, Hw⟩
  iapply (Tri.at (waitR2_tri c j a b hj ha hb) k Q) $$ [H1 Ho]
  · isplitr; · iexact HR
    isplitl [H1]; · iexact H1
    iexact Ho
  iintro ⟨H1, Ho⟩
  iapply Hk
  isplitr [Ho]
  · isplitl [Hw]; · iexact Hw
    iapply (range_top j (came m c))
    isplitl [H1]; · iexact H1
    iexact Hd
  iexact Ho

/-! ## The first loads -/

theorem stepL_tri :
    Tri m K Ks c iprop((xrowF m c 0 ∗ idleF c 0) ∗ (xrowK m c 0 ∗ idleK c 0) ∗ (xrowF m c 1 ∗ idleF c 1) ∗ (xrowK m c 1 ∗ idleK c 1)
        ∗ (xrowF m c 2 ∗ idleF c 2) ∗ (xrowK m c 2 ∗ idleK c 2)) (stepL c)
      iprop((flyF m c 0 ∗ flyF m c 1 ∗ flyF m c 2) ∗ (flyK m c 0 ∗ flyK m c 1 ∗ flyK m c 2)) := by
  intro α k Q
  unfold stepL
  simp only [Prog.bind_assoc]
  iintro ⟨#HR, H0, G0, H1, G1, H2, G2⟩ Hk
  iapply (Tri.at (loadF_tri c 0) _ Q) $$ [H0]
  · isplitr; · iexact HR
    iexact H0
  iintro H0
  iapply (Tri.at (loadK_tri c 0) _ Q) $$ [G0]
  · isplitr; · iexact HR
    iexact G0
  iintro G0
  iapply (Tri.at (loadF_tri c 1) _ Q) $$ [H1]
  · isplitr; · iexact HR
    iexact H1
  iintro H1
  iapply (Tri.at (loadK_tri c 1) _ Q) $$ [G1]
  · isplitr; · iexact HR
    iexact G1
  iintro G1
  iapply (Tri.at (loadF_tri c 2) _ Q) $$ [H2]
  · isplitr; · iexact HR
    iexact H2
  iintro H2
  iapply (Tri.at (loadK_tri c 2) k Q) $$ [G2]
  · isplitr; · iexact HR
    iexact G2
  iintro G2
  iapply Hk
  unfold flyF flyK
  rw [if_pos (by decide : 0 < 16), if_pos (by decide : 1 < 16), if_pos (by decide : 2 < 16),
    if_pos (by decide : 0 < 16), if_pos (by decide : 1 < 16), if_pos (by decide : 2 < 16)]
  isplitl [H0 H1 H2]
  · isplitl [H0]; · iexact H0
    isplitl [H1]; · iexact H1
    iexact H2
  isplitl [G0]; · iexact G0
  isplitl [G1]; · iexact G1
  iexact G2

/-! ## The last waits -/

/-- A sender's slot at rest after all its rounds. -/
abbrev restS (c : Dev nD) (j : ℕ) : sProp 𝕄 := iprop(anyOf c (slS (r2 j)) ∗ atPos ER (kcell c (.s1 (r2 j))) 8 ∅ 0)
/-- The same for the slots of finished rows. -/
abbrev restZ (c : Dev nD) (j : ℕ) : sProp 𝕄 :=
  iprop(anyOf c (slZ (r2 j)) ∗ atPos ER (kcell c (.s2 (r2 j))) 8 ∅ 0 ∗ semVal ((c : Thread nD τ), .dma (semST (r2 j))) 0)

theorem stepE_tri :
    Tri m K Ks c iprop(((slotX c 16 ∗ slotX c 17) ∗ (slotZ m c 16 ∗ slotZ m c 17) ∗ bigSep (Finset.range 14) (done m c)) ∗ oblig c (owe c 16 16 16))
      (stepE c)
      iprop(((restS c 16 ∗ restS c 17) ∗ (restZ c 16 ∗ restZ c 17) ∗ bigSep (Finset.range 16) (done m c)) ∗ oblig c (owe c 16 16 16)) := by
  intro α k Q
  have h : stepE (F := F) c = (waitS1 14 >>= fun _ => (waitS2 c 14 >>= fun _ => waitST c 14) >>= fun _ => waitS1 15 >>= fun _ =>
      (waitS2 c 15 >>= fun _ => waitST c 15)) := by
    unfold stepE; simp only [Prog.bind_assoc]
  rw [h, Prog.bind_assoc]
  iintro ⟨#HR, ⟨⟨Hx0, Hx1⟩, ⟨Hz0, Hz1⟩, Hd⟩, Ho⟩ Hk
  iapply (Tri.at (show Tri m K Ks c _ (waitS1 14) _ from partS1 c 16 16 16 16 (by decide)) _ Q) $$ [Hx0 Ho]
  · isplitr; · iexact HR
    isplitl [Hx0]; · iexact Hx0
    iexact Ho
  iintro ⟨⟨Hx0, Hp0, -⟩, Ho⟩
  rw [Prog.bind_assoc]
  iapply (Tri.at (show Tri m K Ks c _ (waitS2 c 14 >>= fun _ => waitST c 14) _ from partS2 c 16 16 16 16 (by decide)) _ Q) $$ [Hz0 Hd Ho]
  · isplitr; · iexact HR
    isplitr [Ho]
    · isplitl [Hz0]; · iexact Hz0
      iexact Hd
    iexact Ho
  iintro ⟨⟨Hz0, Hq0, -, Hv0, Hd⟩, Ho⟩
  rw [Prog.bind_assoc]
  iapply (Tri.at (show Tri m K Ks c _ (waitS1 15) _ from partS1 c 17 16 16 16 (by decide)) _ Q) $$ [Hx1 Ho]
  · isplitr; · iexact HR
    isplitl [Hx1]; · iexact Hx1
    iexact Ho
  iintro ⟨⟨Hx1, Hp1, -⟩, Ho⟩
  iapply (Tri.at (show Tri m K Ks c _ (waitS2 c 15 >>= fun _ => waitST c 15) _ from partS2 c 17 16 16 16 (by decide)) k Q) $$ [Hz1 Hd Ho]
  · isplitr; · iexact HR
    isplitr [Ho]
    · isplitl [Hz1]; · iexact Hz1
      iexact Hd
    iexact Ho
  iintro ⟨⟨Hz1, Hq1, -, Hv1, Hd⟩, Ho⟩
  iapply Hk
  isplitr [Ho]
  · isplitl [Hx0 Hp0 Hx1 Hp1]
    · isplitl [Hx0 Hp0]
      · isplitl [Hx0]; · iexact Hx0
        iexact Hp0
      isplitl [Hx1]; · iexact Hx1
      iexact Hp1
    isplitr [Hd]
    · isplitl [Hz0 Hq0 Hv0]
      · isplitl [Hz0]; · iexact Hz0
        isplitl [Hq0]; · iexact Hq0
        iexact Hv0
      isplitl [Hz1]; · iexact Hz1
      isplitl [Hq1]; · iexact Hq1
      iexact Hv1
    iexact Hd
  iexact Ho

/-! ## The middle rounds -/

/-- All that a device holds after `a` sends, `b` additions and `d` waits for the other half; and its position at the
    barrier, which is past. -/
def Mid (m : (ℓ : Loc nD τ sig) → Buf (Elt F) ℓ) (c : Dev nD) (a b d : ℕ) : sProp 𝕄 :=
  iprop((APart m c a ∗ BPart m c b ∗ CPart m c d ∗ atPos ER (kcell c .bar) 1 ∅ 0) ∗ oblig c (owe c a b b))

theorem midA (a b d : ℕ) (ha : a < 16) (hb : a < b + 8) : Tri m K Ks c (Mid m c a b d) (stepA c a) (Mid m c (a + 1) b d) := by
  unfold Mid
  refine Tri.conseq (Tri.frame (stepA_tri c a b b ha hb hb) iprop(BPart m c b ∗ CPart m c d ∗ atPos ER (kcell c .bar) 1 ∅ 0)) ?_ ?_
  · iintro ⟨-, ⟨HA, H⟩, Ho⟩
    imodintro
    isplitr [H]
    · isplitl [HA]; · iexact HA
      iexact Ho
    iexact H
  · iintro ⟨⟨HA, Ho⟩, H⟩
    isplitr [Ho]
    · isplitl [HA]; · iexact HA
      iexact H
    iexact Ho

theorem midB (a b d : ℕ) (hb : b < 16) (ha : b < a) : Tri m K Ks c (Mid m c a b d) (stepB c b) (Mid m c a (b + 1) d) := by
  unfold Mid
  refine Tri.conseq (Tri.frame (stepB_tri c b a hb ha) iprop(APart m c a ∗ CPart m c d ∗ atPos ER (kcell c .bar) 1 ∅ 0)) ?_ ?_
  · iintro ⟨-, ⟨HA, HB, H⟩, Ho⟩
    imodintro
    isplitl [HB Ho]
    · isplitl [HB]; · iexact HB
      iexact Ho
    isplitl [HA]; · iexact HA
    iexact H
  · iintro ⟨⟨HB, Ho⟩, HA, H⟩
    isplitr [Ho]
    · isplitl [HA]; · iexact HA
      isplitl [HB]; · iexact HB
      iexact H
    iexact Ho

theorem midC (a b d : ℕ) (hd : d < 16) (ha : d < a) (hb : d < b) : Tri m K Ks c (Mid m c a b d) (stepC c d) (Mid m c a b (d + 1)) := by
  unfold Mid
  refine Tri.conseq (Tri.frame (stepC_tri c d a b hd ha hb) iprop(APart m c a ∗ BPart m c b ∗ atPos ER (kcell c .bar) 1 ∅ 0)) ?_ ?_
  · iintro ⟨-, ⟨HA, HB, HC, H⟩, Ho⟩
    imodintro
    isplitl [HC Ho]
    · isplitl [HC]; · iexact HC
      iexact Ho
    isplitl [HA]; · iexact HA
    isplitl [HB]; · iexact HB
    iexact H
  · iintro ⟨⟨HC, Ho⟩, HA, HB, H⟩
    isplitr [Ho]
    · isplitl [HA]; · iexact HA
      isplitl [HB]; · iexact HB
      isplitl [HC]; · iexact HC
      iexact H
    iexact Ho

/-- One middle round. -/
theorem stepM_tri (n : ℕ) (hn : n < 14) : Tri m K Ks c (Mid m c (n + 2) (n + 1) n) (stepM c n) (Mid m c (n + 1 + 2) (n + 1 + 1) (n + 1)) := by
  unfold stepM
  exact Tri.seq (midA c (n + 2) (n + 1) n (by omega) (by omega)) (Tri.seq (midB c (n + 1 + 2) (n + 1) n (by omega) (by omega))
    (midC c (n + 1 + 2) (n + 1 + 1) n (by omega) (by omega) (by omega)))

/-! ## The start -/

/-- The tokens and the credit of chunk `j`, but for the slots and rows that the handshake brings. -/
abbrev tokA (c : Dev nD) (j : ℕ) : sProp 𝕄 :=
  iprop(dutyTok ER (kcell c (.s1 (r2 j))) (j / 2) 0 ∗ dutyTok ER (kcell (xp c) (.r1 (r8 j))) (j / 8) 0)
abbrev tokB (c : Dev nD) (j : ℕ) : sProp 𝕄 :=
  iprop(dutyTok ER (kcell c (.s2 (r2 j))) (j / 2) 0 ∗ dutyTok ER (kcell (zp c) (.r2 (r16 j))) 0 0 ∗ cred (tallyAt (kcell c (.r1 (r8 j))) j NB))

/-- What a device has for the handshake. -/
abbrev forH (c : Dev nD) : sProp 𝕄 :=
  iprop(dutyTok ER (kcell (xp c) .bar) 0 0 ∗ dutyTok ER (kcell (zp c) .bar) 0 1 ∗ slots c ∗ rows c (zp c)
    ∗ cred (tallyAt (kcell c .bar) 0 2) ∗ atPos ER (kcell c .bar) 0 ∅ 0)

/-- The rest of what it has: its argument, its rows of the result, its idle slots, and its tokens. -/
def forRest (m : (ℓ : Loc nD τ sig) → Buf (Elt F) ℓ) (c : Dev nD) : sProp 𝕄 :=
  iprop((bigSep (Finset.range 16) (xrowF m c) ∗ bigSep (Finset.range 16) (xrowK m c) ∗ rows c c)
    ∗ ((idleF c 0 ∗ idleF c 1 ∗ idleF c 2) ∗ (idleK c 0 ∗ idleK c 1 ∗ idleK c 2) ∗ (slotX c 0 ∗ slotX c 1) ∗ (slotZ m c 0 ∗ slotZ m c 1))
    ∗ (bigSep (Finset.range 16) (tokA c) ∗ bigSep (Finset.range 16) (tokB c) ∗ bigSep (Finset.Ico 8 16) (fun j => writeTok ES (xp c, r8 j) 1)
      ∗ bigSep (Finset.range 8) (freeing c))
    ∗ (bigSep (Finset.range 8) (rpos c) ∗ creditSt m c 0 ∗ bigSep (Finset.range 16) (coming c)))

/-- What a device starts with. -/
def Start (m : (ℓ : Loc nD τ sig) → Buf (Elt F) ℓ) (c : Dev nD) : sProp 𝕄 := iprop((forH c ∗ forRest m c) ∗ oblig c (owe0 c))

/-- The slots the handshake brings, with the tokens for their second use. -/
theorem spots_intro :
    iprop(slots (xp c) ∗ bigSep (Finset.Ico 8 16) (fun j => writeTok ES (xp c, r8 j) 1)) ⊢ (bigSep (Finset.range 16) (spot c) : sProp 𝕄) := by
  have h : (Finset.range 16 : Finset ℕ) = Finset.range 8 ∪ Finset.Ico 8 16 := by decide
  rw [h, bigSep_union (by decide)]
  have h1 : (slots (xp c) : sProp 𝕄) = bigSep (Finset.range 8) (spot c) :=
    bigSep_congr fun i hi => by unfold spot; rw [if_pos (Finset.mem_range.mp hi)]
  have h2 : (bigSep (Finset.Ico 8 16) (fun j => writeTok ES (xp c, r8 j) 1) : sProp 𝕄) = bigSep (Finset.Ico 8 16) (spot c) :=
    bigSep_congr fun i hi => by unfold spot; rw [if_neg (by have := (Finset.mem_Ico.mp hi).1; omega)]
  rw [h1, h2]
  exact BI.Entails.refl _

theorem range3 (A : ℕ → sProp 𝕄) : bigSep (Finset.range 16) A ⊢ iprop(A 0 ∗ A 1 ∗ A 2 ∗ bigSep (Finset.Ico 3 16) A) := by
  rw [Finset.range_eq_Ico, bigSep_Ico_succ_bot (by decide), bigSep_Ico_succ_bot (by decide), bigSep_Ico_succ_bot (by decide)]

/-- The handshake and the first loads. -/
theorem first_tri : Tri m K Ks c (Start m c) (stepH c >>= fun _ => stepL c) (Mid m c 0 0 0) := by
  intro α k Q
  rw [Prog.bind_assoc]
  unfold Start forRest
  iintro ⟨#HR, ⟨HH, ⟨HxF, HxK, Hrow⟩, ⟨⟨HF0, HF1, HF2⟩, ⟨HK0, HK1, HK2⟩, ⟨HX0, HX1⟩, ⟨HZ0, HZ1⟩⟩, ⟨HtA, HtB, Hw, Hfr⟩, ⟨Hrp, Hcr, Hco⟩⟩, Ho⟩ Hk
  iapply (Tri.at (stepH_tri c) _ Q) $$ [HH Ho]
  · isplitr; · iexact HR
    isplitl [HH]; · iexact HH
    iexact Ho
  iintro ⟨⟨Hsl, Hfar, Hbar⟩, Ho⟩
  ihave HxF := (range3 (xrowF m c)) $$ HxF
  icases HxF with ⟨Hx0, Hx1, Hx2, HxF⟩
  ihave HxK := (range3 (xrowK m c)) $$ HxK
  icases HxK with ⟨Hy0, Hy1, Hy2, HxK⟩
  iapply (Tri.at (stepL_tri c) k Q) $$ [Hx0 HF0 Hy0 HK0 Hx1 HF1 Hy1 HK1 Hx2 HF2 Hy2 HK2]
  · isplitr; · iexact HR
    isplitl [Hx0 HF0]
    · isplitl [Hx0]; · iexact Hx0
      iexact HF0
    isplitl [Hy0 HK0]
    · isplitl [Hy0]; · iexact Hy0
      iexact HK0
    isplitl [Hx1 HF1]
    · isplitl [Hx1]; · iexact Hx1
      iexact HF1
    isplitl [Hy1 HK1]
    · isplitl [Hy1]; · iexact Hy1
      iexact HK1
    isplitl [Hx2 HF2]
    · isplitl [Hx2]; · iexact Hx2
      iexact HF2
    isplitl [Hy2]; · iexact Hy2
    iexact HK2
  iintro ⟨⟨Hf0, Hf1, Hf2⟩, ⟨Hg0, Hg1, Hg2⟩⟩
  iapply Hk
  unfold Mid
  isplitr [Ho]
  · isplitl [HxF Hf0 Hf1 Hf2 HX0 HX1 HtA Hsl Hw Hcr]
    · unfold APart
      isplitr; · rw [Finset.range_zero, bigSep_empty]; iempintro
      isplitl [HxF]; · iexact HxF
      isplitl [Hf0]; · iexact Hf0
      isplitl [Hf1]; · iexact Hf1
      isplitl [Hf2]; · iexact Hf2
      isplitl [HX0]; · iexact HX0
      isplitl [HX1]; · iexact HX1
      isplitl [HtA Hsl Hw]
      · ihave Hsp := (spots_intro c) $$ [Hsl Hw]
        · isplitl [Hsl]; · iexact Hsl
          iexact Hw
        iapply (show iprop(bigSep (Finset.range 16) (tokA c) ∗ bigSep (Finset.range 16) (spot c)) ⊢ (bigSep (Finset.Ico 0 16) (kitA c) : sProp 𝕄) from by
          rw [← Finset.range_eq_Ico, ← bigSep_sep']
          exact bigSep_mono fun j _ => by
            show iprop(tokA c j ∗ spot c j) ⊢ kitA c j
            iintro ⟨⟨H1, H2⟩, H3⟩
            isplitl [H1]; · iexact H1
            isplitl [H2]; · iexact H2
            iexact H3)
        isplitl [HtA]; · iexact HtA
        iexact Hsp
      iexact Hcr
    isplitl [HxK Hg0 Hg1 Hg2 HZ0 HZ1 HtB Hfar Hrow Hrp Hfr]
    · unfold BPart
      isplitr; · rw [Finset.range_zero, bigSep_empty]; iempintro
      isplitl [HxK]; · iexact HxK
      isplitl [Hg0]; · iexact Hg0
      isplitl [Hg1]; · iexact Hg1
      isplitl [Hg2]; · iexact Hg2
      isplitl [HZ0]; · iexact HZ0
      isplitl [HZ1]; · iexact HZ1
      isplitr; · rw [Nat.zero_sub, Finset.range_zero, bigSep_empty]; iempintro
      isplitl [HtB Hfar Hrow]
      · iapply (show iprop(bigSep (Finset.range 16) (tokB c) ∗ rows (zp c) c ∗ rows c c) ⊢ (bigSep (Finset.Ico 0 16) (kitB c) : sProp 𝕄) from by
          unfold rows
          rw [← Finset.range_eq_Ico, ← bigSep_sep', ← bigSep_sep']
          exact bigSep_mono fun j _ => by
            show iprop(tokB c j ∗ anyOf (zp c) (oOwn c (r16 j)) ∗ anyOf c (oOwn c (r16 j))) ⊢ kitB c j
            iintro ⟨⟨H1, H2, H3⟩, H4, H5⟩
            isplitl [H1]; · iexact H1
            isplitl [H2]; · iexact H2
            isplitl [H4]; · iexact H4
            isplitl [H5]; · iexact H5
            iexact H3)
        isplitl [HtB]; · iexact HtB
        isplitl [Hfar]; · iexact Hfar
        iexact Hrow
      isplitl [Hrp]; · rw [← Finset.range_eq_Ico]; iexact Hrp
      isplitl [Hfr]; · rw [← Finset.range_eq_Ico]; iexact Hfr
      isplitr; · rw [Nat.zero_min, Finset.range_zero, bigSep_empty]; iempintro
      rw [ico_none (by decide : 0 ≤ 8)]; iempintro
    isplitl [Hco]
    · unfold CPart
      isplitl [Hco]; · rw [← Finset.range_eq_Ico]; iexact Hco
      rw [Finset.range_zero, bigSep_empty]; iempintro
    iexact Hbar
  iexact Ho

/-! ## The end -/

/-- What a device ends with. -/
def End (m : (ℓ : Loc nD τ sig) → Buf (Elt F) ℓ) (c : Dev nD) : sProp 𝕄 :=
  iprop((bigSep (Finset.range 16) (xrowF m c) ∗ bigSep (Finset.range 16) (xrowK m c))
    ∗ (bigSep (Finset.range 16) (done m c) ∗ bigSep (Finset.range 16) (came m c))
    ∗ ((idleF c 16 ∗ idleF c 17 ∗ idleF c 18) ∗ (idleK c 16 ∗ idleK c 17 ∗ idleK c 18) ∗ (restS c 16 ∗ restS c 17) ∗ (restZ c 16 ∗ restZ c 17))
    ∗ (bigSep (Finset.Ico 8 16) (fun i => anyOf c (slR (r8 i))) ∗ bigSep (Finset.Ico 16 24) (rpos c) ∗ creditSt m c 8 ∗ atPos ER (kcell c .bar) 1 ∅ 0)
    ∗ oblig c 0)

theorem last_tri : Tri m K Ks c (Mid m c 16 16 16) (stepE c) (End m c) := by
  intro α k Q
  unfold Mid APart BPart CPart
  iintro ⟨#HR, ⟨⟨HxF, -, HF0, HF1, HF2, HX0, HX1, -, Hcr⟩, ⟨HxK, -, HK0, HK1, HK2, HZ0, HZ1, Hd, -, Hrp, -, -, Hsl⟩, ⟨-, Hca⟩, Hbar⟩, Ho⟩ Hk
  iapply (Tri.at (stepE_tri c) k Q) $$ [HX0 HX1 HZ0 HZ1 Hd Ho]
  · isplitr; · iexact HR
    isplitr [Ho]
    · isplitl [HX0 HX1]
      · isplitl [HX0]; · iexact HX0
        iexact HX1
      isplitl [HZ0 HZ1]
      · isplitl [HZ0]; · iexact HZ0
        iexact HZ1
      iexact Hd
    iexact Ho
  iintro ⟨⟨HX, HZ, Hd⟩, Ho⟩
  rw [owe_end]
  iapply Hk
  unfold End
  isplitl [HxF HxK]
  · isplitl [HxF]; · iexact HxF
    iexact HxK
  isplitl [Hd Hca]
  · isplitl [Hd]; · iexact Hd
    iexact Hca
  isplitl [HF0 HF1 HF2 HK0 HK1 HK2 HX HZ]
  · isplitl [HF0 HF1 HF2]
    · isplitl [HF0]; · iapply (show flyF m c 16 ⊢ idleF c 16 from Entails.of_eq (if_neg (by decide))); iexact HF0
      isplitl [HF1]; · iapply (show flyF m c 17 ⊢ idleF c 17 from Entails.of_eq (if_neg (by decide))); iexact HF1
      iapply (show flyF m c 18 ⊢ idleF c 18 from Entails.of_eq (if_neg (by decide))); iexact HF2
    isplitl [HK0 HK1 HK2]
    · isplitl [HK0]; · iapply (show flyK m c 16 ⊢ idleK c 16 from Entails.of_eq (if_neg (by decide))); iexact HK0
      isplitl [HK1]; · iapply (show flyK m c 17 ⊢ idleK c 17 from Entails.of_eq (if_neg (by decide))); iexact HK1
      iapply (show flyK m c 18 ⊢ idleK c 18 from Entails.of_eq (if_neg (by decide))); iexact HK2
    isplitl [HX]; · iexact HX
    iexact HZ
  isplitr [Ho]
  · isplitl [Hsl]; · iexact Hsl
    isplitl [Hrp]; · iexact Hrp
    isplitl [Hcr]; · iexact Hcr
    iexact Hbar
  iexact Ho

/-! ## All steps -/

/-- The steps of device `d`. -/
def devSteps (d : Dev nD) : TP F PUnit.{1} :=
  (stepH d >>= fun _ => stepL d) >>= fun _ => stepA d 0 >>= fun _ => stepA d 1 >>= fun _ => stepB d 0 >>= fun _ =>
  stepM d 0 >>= fun _ => stepM d 1 >>= fun _ => stepM d 2 >>= fun _ => stepM d 3 >>= fun _ => stepM d 4 >>= fun _ =>
  stepM d 5 >>= fun _ => stepM d 6 >>= fun _ => stepM d 7 >>= fun _ => stepM d 8 >>= fun _ => stepM d 9 >>= fun _ =>
  stepM d 10 >>= fun _ => stepM d 11 >>= fun _ => stepM d 12 >>= fun _ => stepM d 13 >>= fun _ =>
  stepB d 15 >>= fun _ => stepC d 14 >>= fun _ => stepC d 15 >>= fun _ => stepE d

theorem bodySteps_eq : bodySteps (F := F) = (Prog.lift .deviceId >>= fun d => devSteps d) := by
  unfold bodySteps devSteps; simp only [Prog.bind_assoc]

/-- The whole body of a device. -/
theorem dev_tri : Tri m K Ks c (Start m c) (devSteps c) (End m c) :=
  Tri.seq (first_tri c) (Tri.seq (midA c 0 0 0 (by decide) (by decide)) (Tri.seq (midA c 1 0 0 (by decide) (by decide))
    (Tri.seq (midB c 2 0 0 (by decide) (by decide))
    (Tri.seq (stepM_tri c 0 (by decide)) (Tri.seq (stepM_tri c 1 (by decide)) (Tri.seq (stepM_tri c 2 (by decide))
    (Tri.seq (stepM_tri c 3 (by decide)) (Tri.seq (stepM_tri c 4 (by decide)) (Tri.seq (stepM_tri c 5 (by decide))
    (Tri.seq (stepM_tri c 6 (by decide)) (Tri.seq (stepM_tri c 7 (by decide)) (Tri.seq (stepM_tri c 8 (by decide))
    (Tri.seq (stepM_tri c 9 (by decide)) (Tri.seq (stepM_tri c 10 (by decide)) (Tri.seq (stepM_tri c 11 (by decide))
    (Tri.seq (stepM_tri c 12 (by decide)) (Tri.seq (stepM_tri c 13 (by decide)) (Tri.seq (midB c 16 15 14 (by decide) (by decide)) (Tri.seq (midC c 16 16 14 (by decide) (by decide) (by decide))
    (Tri.seq (midC c 16 16 15 (by decide) (by decide) (by decide)) (last_tri c)))))))))))))))))))))

end Cert.ReduceProof

end
-- ==== Proof.Pieces.lean ====
/-
# Buffers in pieces

The argument and the result of a device as their two halves of sixteen chunks each, the slotted buffers as their slots,
and the contents the result ends with.
-/
module

public import proofs.«01_k».proof.Proof.Body
public import Idealize.ShloMosaic.Lib.Ring

@[expose] public section

set_option maxRecDepth 8000

noncomputable section

namespace Cert.ReduceProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Ring

variable {F : FTy → Type} [FloatOps F]

local notation "𝕄" => MT nD τ sig ℕ (Elt F) ℕ UU ℕ

/-! ## The two halves -/

theorem offFar : ∀ (c : Dev nD) (k : Fin 16), k0_off1 c (BitVec.ofNat 32 (1024 * k.val)) = ![16384 * ((c.val / 8 + c.val + 1) % 2) + 1024 * k.val, 0] := by
  decide +kernel
theorem offOwn : ∀ (c : Dev nD) (k : Fin 16), k0_off2 c (BitVec.ofNat 32 (1024 * k.val)) = ![16384 * ((c.val / 8 + c.val) % 2) + 1024 * k.val, 0] := by
  decide +kernel

theorem mem_own (c : Dev nD) (k : Fin 16) (i : S32768x1024.Idx) :
    i ∈ (rectOwn c k).set ↔ (i (0 : Fin 2)).val / 1024 = 16 * ((c.val / 8 + c.val) % 2) + k.val := by
  rw [Rect.mem_set_unit, offOwn c k]
  have h1 : (i (1 : Fin 2)).val < 1024 := (i (1 : Fin 2)).isLt
  constructor
  · intro h
    have h0 : 16384 * ((c.val / 8 + c.val) % 2) + 1024 * k.val ≤ (i (0 : Fin 2)).val
      ∧ (i (0 : Fin 2)).val < 16384 * ((c.val / 8 + c.val) % 2) + 1024 * k.val + 1024 := h (0 : Fin 2)
    omega
  · intro h a
    fin_cases a
    · show 16384 * ((c.val / 8 + c.val) % 2) + 1024 * k.val ≤ (i (0 : Fin 2)).val
        ∧ (i (0 : Fin 2)).val < 16384 * ((c.val / 8 + c.val) % 2) + 1024 * k.val + 1024
      omega
    · show 0 ≤ (i (1 : Fin 2)).val ∧ (i (1 : Fin 2)).val < 0 + 1024
      omega

theorem zp_half (c : Dev nD) : ((zp c).val / 8 + (zp c).val) % 2 = (c.val / 8 + c.val + 1) % 2 := by revert c; decide

theorem mem_far (c : Dev nD) (k : Fin 16) (i : S32768x1024.Idx) :
    i ∈ (rectFar c k).set ↔ (i (0 : Fin 2)).val / 1024 = 16 * ((c.val / 8 + c.val + 1) % 2) + k.val := by
  rw [← rectOwn_zp, mem_own, zp_half]

/-- The chunks of both halves. -/
def chunk (c : Dev nD) (t : Bool × Fin 16) : Rect S32768x1024 := cond t.1 (rectOwn c t.2) (rectFar c t.2)

theorem chunk_stride (c : Dev nD) : ∀ t a, (chunk c t).stride a = 1 := by
  rintro ⟨_ | _, k⟩ a <;> rfl

theorem mem_chunk (c : Dev nD) (t : Bool × Fin 16) (i : S32768x1024.Idx) :
    i ∈ (chunk c t).set ↔ (i (0 : Fin 2)).val / 1024 = 16 * ((c.val / 8 + c.val + cond t.1 0 1) % 2) + t.2.val := by
  rcases t with ⟨_ | _, k⟩
  · exact mem_far c k i
  · exact mem_own c k i

theorem chunk_disjoint (c : Dev nD) : ∀ t t', t ≠ t' → Disjoint (chunk c t).set (chunk c t').set := by
  intro t t' h
  refine Finset.disjoint_left.mpr fun i hi hi' => h ?_
  rw [mem_chunk] at hi hi'
  rcases t with ⟨b, k⟩
  rcases t' with ⟨b', k'⟩
  have hk := k.isLt
  have hk' := k'.isLt
  cases b <;> cases b' <;> simp only [cond_true, cond_false] at hi hi' <;>
    first | exact congrArg _ (Fin.ext (by omega)) | exact absurd hi (by omega)

theorem chunk_cover (c : Dev nD) : (Finset.univ : Finset (Bool × Fin 16)).biUnion (fun t => (chunk c t).set) = Finset.univ := by
  refine Finset.eq_univ_of_forall fun i => Finset.mem_biUnion.mpr ?_
  have hi : (i (0 : Fin 2)).val < 32768 := (i (0 : Fin 2)).isLt
  by_cases h : (i (0 : Fin 2)).val / 16384 = (c.val / 8 + c.val) % 2
  · exact ⟨(true, ⟨(i (0 : Fin 2)).val / 1024 % 16, Nat.mod_lt _ (by decide)⟩), Finset.mem_univ _,
      (mem_chunk c _ i).mpr (by simp only [cond_true]; omega)⟩
  · exact ⟨(false, ⟨(i (0 : Fin 2)).val / 1024 % 16, Nat.mod_lt _ (by decide)⟩), Finset.mem_univ _,
      (mem_chunk c _ i).mpr (by simp only [cond_false]; omega)⟩

/-- A family over the chunks of both halves is a family over each. -/
theorem chunk_sep (A B : ℕ → sProp 𝕄) (D : Bool × Fin 16 → sProp 𝕄)
    (hA : ∀ k : Fin 16, D (true, k) = A k.val) (hB : ∀ k : Fin 16, D (false, k) = B k.val) :
    bigSep Finset.univ D = iprop(bigSep (Finset.range 16) A ∗ bigSep (Finset.range 16) B) := by
  rw [bigSep_univ_prod, bigSep_univ_eq_bigSepL [true, false] (by decide) (by decide)]
  show iprop(bigSep Finset.univ (fun k => D (true, k)) ∗ bigSep Finset.univ (fun k => D (false, k))) = _
  rw [bigSep_fin_eq_range 16 (fun k => D (true, k)) A (fun t h => (hA ⟨t, h⟩).symm),
    bigSep_fin_eq_range 16 (fun k => D (false, k)) B (fun t h => (hB ⟨t, h⟩).symm)]

theorem r16_val (k : Fin 16) : r16 k.val = k := Fin.ext (Nat.mod_eq_of_lt k.isLt)

variable (m : (ℓ : Loc nD τ sig) → Buf (Elt F) ℓ) (c : Dev nD)

/-! ## The argument -/

/-- The argument held whole is held chunk by chunk. -/
theorem arg_split : (((c : Thread nD τ).loc main_arg0) ↦{fullShare} m ((c : Thread nD τ).loc main_arg0))
    ⊢ (iprop(bigSep (Finset.range 16) (xrowK m c) ∗ bigSep (Finset.range 16) (xrowF m c)) : sProp 𝕄) := by
  rw [← chunk_sep (xrowK m c) (xrowF m c) (fun t => owns (c : Thread nD τ) (bX.slice (chunk c t) (chunk_stride c t)) fullShare
      (fun j => (m ((c : Thread nD τ).loc main_arg0) : S32768x1024.Idx → Elt F .f32) ((chunk c t).emb j)))
    (fun k => by unfold xrowK ownV; rw [r16_val]; rfl) (fun k => by unfold xrowF farV; rw [r16_val]; rfl)]
  iintro H
  iapply (owns_rects (c : Thread nD τ) bX fullShare (chunk c) (chunk_stride c) (chunk_disjoint c) (chunk_cover c)
    (m ((c : Thread nD τ).loc main_arg0)))
  rw [owns_whole]
  iexact H

/-- And back. -/
theorem arg_join : (iprop(bigSep (Finset.range 16) (xrowK m c) ∗ bigSep (Finset.range 16) (xrowF m c)) : sProp 𝕄)
    ⊢ (((c : Thread nD τ).loc main_arg0) ↦{fullShare} m ((c : Thread nD τ).loc main_arg0)) := by
  rw [← chunk_sep (xrowK m c) (xrowF m c) (fun t => owns (c : Thread nD τ) (bX.slice (chunk c t) (chunk_stride c t)) fullShare
      (fun j => (m ((c : Thread nD τ).loc main_arg0) : S32768x1024.Idx → Elt F .f32) ((chunk c t).emb j)))
    (fun k => by unfold xrowK ownV; rw [r16_val]; rfl) (fun k => by unfold xrowF farV; rw [r16_val]; rfl)]
  rw [← owns_whole]
  exact owns_of_rects (c : Thread nD τ) bX fullShare (chunk c) (chunk_stride c) (chunk_disjoint c) (chunk_cover c)
    (m ((c : Thread nD τ).loc main_arg0))

/-! ## The result -/

/-- The sum of a device's rows and its first peer's, in the roundings of a device that keeps its own. -/
def pairSum (m : (ℓ : Loc nD τ sig) → Buf (Elt F) ℓ) (c : Dev nD) : FVec F S32768x1024 .bf16 :=
  truncf .bf16 (addf (m ((c : Thread nD τ).loc main_arg0) : FVec F S32768x1024 .f32)
    (extf .f32 (truncf .bf16 (m ((xp c : Thread nD τ).loc main_arg0) : FVec F S32768x1024 .f32) bitsLt_bf16_f32) bitsLt_bf16_f32)) bitsLt_bf16_f32

/-- The result: the kept half summed here, the other half at the peer along the last axis. -/
def result (m : (ℓ : Loc nD τ sig) → Buf (Elt F) ℓ) (c : Dev nD) : FVec F S32768x1024 .bf16 := fun i =>
  if (i (0 : Fin 2)).val / 16384 = (c.val / 8 + c.val) % 2 then pairSum m c i else pairSum m (zp c) i

/-- Chunks at the same offsets hold the same elements. -/
theorem emb_congr {o o' : Fin 2 → ℕ} (h : o = o') (p : ∀ a, o a + S1024x1024.size a ≤ S32768x1024.size a)
    (p' : ∀ a, o' a + S1024x1024.size a ≤ S32768x1024.size a) (y : S1024x1024.Idx) :
    (Rect.unit (s := S32768x1024) o S1024x1024.size p).emb y = (Rect.unit (s := S32768x1024) o' S1024x1024.size p').emb y := by
  subst h; rfl

theorem sentV_eq (j : ℕ) : sentV m c j = truncf .bf16 (farV m c j) bitsLt_bf16_f32 := by
  unfold sentV payA k0_pay1
  dsimp only [up, down]
  rw [shapeCast_shapeCast, shapeCast_shapeCast]

theorem finV_eq (j : ℕ) : finV m c j = fun y => pairSum m c ((rectOwn c (r16 j)).emb y) := by
  unfold finV payB k0_pay3
  dsimp only [up, down]
  rw [shapeCast_shapeCast, shapeCast_shapeCast, shapeCast_shapeCast, sentV_eq]
  unfold farV ownV pairSum
  have h : (xFar (xp c) (r16 j)).view.read (Elt F) (m ((xp c : Thread nD τ).loc main_arg0))
      = fun y => (m ((xp c : Thread nD τ).loc main_arg0) : S32768x1024.Idx → Elt F .f32) ((rectOwn c (r16 j)).emb y) := by
    exact funext fun y => congrArg (m ((xp c : Thread nD τ).loc main_arg0) : S32768x1024.Idx → Elt F .f32) (emb_congr (off_xp' c (r16 j)) _ _ y)
  rw [h]
  rfl

/-- The result's contents on the rows kept. -/
theorem result_own (k : Fin 16) (y : (rectOwn c k).shape.Idx) : result m c ((rectOwn c k).emb y) = pairSum m c ((rectOwn c k).emb y) := by
  have h := (mem_own c k ((rectOwn c k).emb y)).mp (by rw [← Rect.map_emb_univ]; exact Finset.mem_map_of_mem _ (Finset.mem_univ y))
  unfold result
  rw [if_pos (by have := k.isLt; omega)]
/-- The result's contents on the rows received. -/
theorem result_far (k : Fin 16) (y : (rectFar c k).shape.Idx) : result m c ((rectFar c k).emb y) = pairSum m (zp c) ((rectFar c k).emb y) := by
  have h := (mem_far c k ((rectFar c k).emb y)).mp (by rw [← Rect.map_emb_univ]; exact Finset.mem_map_of_mem _ (Finset.mem_univ y))
  unfold result
  rw [if_neg (by have := k.isLt; omega)]

/-- Chunk `j` received from the peer. -/
abbrev got (m : (ℓ : Loc nD τ sig) → Buf (Elt F) ℓ) (c : Dev nD) (j : ℕ) : sProp 𝕄 := has c (oFar c (r16 j)) fullShare (finV m (zp c) (r16 j).val)

theorem out_join : (iprop(bigSep (Finset.range 16) (done m c) ∗ bigSep (Finset.range 16) (got m c)) : sProp 𝕄)
    ⊢ (((c : Thread nD τ).loc main_v1) ↦{fullShare} (result m c : Buf (Elt F) ((c : Thread nD τ).loc main_v1))) := by
  rw [← chunk_sep (done m c) (got m c) (fun t => owns (c : Thread nD τ) (bO.slice (chunk c t) (chunk_stride c t)) fullShare
      (fun j => result m c ((chunk c t).emb j)))
    (fun k => by
      unfold done; rw [finV_eq, r16_val]
      exact congrArg (fun X => (has c (oOwn c k) fullShare X : sProp 𝕄)) (funext fun y => result_own m c k y))
    (fun k => by
      unfold got; rw [finV_eq, r16_val, r16_val]
      exact congrArg (fun X => (has c (oFar c k) fullShare X : sProp 𝕄)) (funext fun y => (result_far m c k y).trans
        (congrArg _ (emb_congr (off_zp c k) _ _ y).symm)))]
  rw [← owns_whole]
  exact owns_of_rects (Val := Elt F) (c : Thread nD τ) bO fullShare (chunk c) (chunk_stride c) (chunk_disjoint c) (chunk_cover c)
    (result m c : S32768x1024.Idx → Elt F .bf16)

theorem any_congr {r r' : Rect S32768x1024} (h : r = r') (p : ∀ a, r.stride a = 1) (p' : ∀ a, r'.stride a = 1) :
    (anyOf c (bO.slice r p) : sProp 𝕄) = anyOf c (bO.slice r' p') := by subst h; rfl

theorem out_split (f : Buf (Elt F) ((c : Thread nD τ).loc main_v1)) : (((c : Thread nD τ).loc main_v1) ↦{fullShare} f)
    ⊢ (iprop(rows c c ∗ rows c (zp c)) : sProp 𝕄) := by
  have hz : (rows c (zp c) : sProp 𝕄) = bigSep (Finset.range 16) (fun i => anyOf c (oFar c (r16 i))) :=
    bigSep_congr fun i _ => any_congr c (rectOwn_zp c (r16 i)) _ _
  rw [hz, ← chunk_sep (fun i => anyOf c (oOwn c (r16 i))) (fun i => anyOf c (oFar c (r16 i)))
    (fun t => anyOf c (bO.slice (chunk c t) (chunk_stride c t))) (fun k => by rw [r16_val]; rfl) (fun k => by rw [r16_val]; rfl)]
  refine BIBase.Entails.trans (Q := bigSep Finset.univ fun t => owns (c : Thread nD τ) (bO.slice (chunk c t) (chunk_stride c t)) fullShare
      (fun j => (f : S32768x1024.Idx → Elt F .bf16) ((chunk c t).emb j))) ?_ (bigSep_mono fun t _ => has_any c _ _)
  iintro H
  iapply (owns_rects (c : Thread nD τ) bO fullShare (chunk c) (chunk_stride c) (chunk_disjoint c) (chunk_cover c) f)
  rw [owns_whole]
  iexact H

/-! ## The slotted buffers -/

theorem slot_disjoint {n : ℕ} (a b : ℕ) (ha : ∀ x, (![a, 0, 0] : Fin 3 → Nat) x + S1x1024x1024.size x ≤ (⟨3, ![n, 1024, 1024]⟩ : Shape).size x)
    (hb : ∀ x, (![b, 0, 0] : Fin 3 → Nat) x + S1x1024x1024.size x ≤ (⟨3, ![n, 1024, 1024]⟩ : Shape).size x) (h : a ≠ b) :
    Disjoint (Rect.unit (s := ⟨3, ![n, 1024, 1024]⟩) ![a, 0, 0] S1x1024x1024.size ha).set
      (Rect.unit (s := ⟨3, ![n, 1024, 1024]⟩) ![b, 0, 0] S1x1024x1024.size hb).set :=
  Rect.unit_disjoint (0 : Fin 3) (by show a + 1 ≤ b ∨ b + 1 ≤ a; omega)

theorem slot_mem {n : ℕ} (a : ℕ) (ha : ∀ x, (![a, 0, 0] : Fin 3 → Nat) x + S1x1024x1024.size x ≤ (⟨3, ![n, 1024, 1024]⟩ : Shape).size x)
    (i : (⟨3, ![n, 1024, 1024]⟩ : Shape).Idx) (h : a = (i (0 : Fin 3)).val) (hi : ∀ x, (i x).val < (![n, 1024, 1024] : Fin 3 → ℕ) x) :
    i ∈ (Rect.unit (s := ⟨3, ![n, 1024, 1024]⟩) ![a, 0, 0] S1x1024x1024.size ha).set := by
  rw [Rect.mem_set_unit]
  intro x
  have := hi x
  fin_cases x
  · show a ≤ (i (0 : Fin 3)).val ∧ (i (0 : Fin 3)).val < a + 1
    omega
  · show 0 ≤ (i (1 : Fin 3)).val ∧ (i (1 : Fin 3)).val < 0 + 1024
    exact ⟨Nat.zero_le _, by rw [Nat.zero_add]; exact this⟩
  · show 0 ≤ (i (2 : Fin 3)).val ∧ (i (2 : Fin 3)).val < 0 + 1024
    exact ⟨Nat.zero_le _, by rw [Nat.zero_add]; exact this⟩

theorem any_intro {sp : Space} {s : Shape} {e : EltTy} (w : Memref sig .tc sp s e) (f : Buf (Elt F) (w.view.loc (c : Thread nD τ))) :
    (w.view.loc (c : Thread nD τ) ↦[w.view.set]{fullShare} f) ⊢ (anyOf c w : sProp 𝕄) := by
  unfold anyOf
  iintro H
  iexists f
  iexact H

/-- The buffer of rows to send: its slots are apart and make it up. -/
def elF (a : Fin 3) : Finset S3x1024x1024.Idx := (slF a).view.set
theorem setF (a : Fin 3) : elF a = ((rect3 a).set : Finset S3x1024x1024.Idx) := by
  show (slF a).view.set = _
  rw [Memref.set_view_squeeze]
  show ((Memref.whole cc0_scratch0).view.slice (rect3 a)).set = _
  rw [View.set_slice]
  exact Finset.map_refl
theorem djF (a b : Fin 3) (h : a ≠ b) : Disjoint (elF a) (elF b) := by
  rw [setF, setF]
  exact slot_disjoint _ _ _ _ (fun h' => h (Fin.ext h'))
theorem cvF : Finset.univ.biUnion elF = Finset.univ := by
  refine Finset.eq_univ_of_forall fun i => Finset.mem_biUnion.mpr ⟨(⟨(i (0 : Fin 3)).val, (i (0 : Fin 3)).isLt⟩ : Fin 3), Finset.mem_univ _, ?_⟩
  rw [setF]
  exact slot_mem _ _ _ rfl (fun a => (i a).isLt)
theorem splitF (c : Dev nD) : iprop(∃ f : Buf (Elt F) ((c : Thread nD τ).loc cc0_scratch0), ((c : Thread nD τ).loc cc0_scratch0) ↦{fullShare} f)
    ⊢ (bigSep Finset.univ (fun a => anyOf c (slF a)) : sProp 𝕄) := by
  iintro ⟨%f, H⟩
  ihave H := (Entails.of_eq (pointsTo_blocks elF djF cvF f)) $$ H
  iapply (show bigSep Finset.univ (fun a => ((c : Thread nD τ).loc cc0_scratch0) ↦[(slF a).view.set]{fullShare} f) ⊢
    (bigSep Finset.univ (fun a => anyOf c (slF a)) : sProp 𝕄) from bigSep_mono fun a _ => any_intro c (slF a) f)
  iexact H
theorem joinF (c : Dev nD) : (bigSep Finset.univ (fun a => anyOf c (slF a)) : sProp 𝕄)
    ⊢ iprop(∃ f : Buf (Elt F) ((c : Thread nD τ).loc cc0_scratch0), ((c : Thread nD τ).loc cc0_scratch0) ↦{fullShare} f) :=
  pointsTo_blocks_join_exists (ℓ := (c : Thread nD τ).loc cc0_scratch0) elF djF cvF (fun _ => Classical.arbitrary _)

/-- The buffer of rows to keep: its slots are apart and make it up. -/
def elK (a : Fin 3) : Finset S3x1024x1024.Idx := (slK a).view.set
theorem setK (a : Fin 3) : elK a = ((rect3 a).set : Finset S3x1024x1024.Idx) := by
  show (slF a).view.set = _
  rw [Memref.set_view_squeeze]
  show ((Memref.whole cc0_scratch1).view.slice (rect3 a)).set = _
  rw [View.set_slice]
  exact Finset.map_refl
theorem djK (a b : Fin 3) (h : a ≠ b) : Disjoint (elK a) (elK b) := by
  rw [setK, setK]
  exact slot_disjoint _ _ _ _ (fun h' => h (Fin.ext h'))
theorem cvK : Finset.univ.biUnion elK = Finset.univ := by
  refine Finset.eq_univ_of_forall fun i => Finset.mem_biUnion.mpr ⟨(⟨(i (0 : Fin 3)).val, (i (0 : Fin 3)).isLt⟩ : Fin 3), Finset.mem_univ _, ?_⟩
  rw [setK]
  exact slot_mem _ _ _ rfl (fun a => (i a).isLt)
theorem splitK (c : Dev nD) : iprop(∃ f : Buf (Elt F) ((c : Thread nD τ).loc cc0_scratch1), ((c : Thread nD τ).loc cc0_scratch1) ↦{fullShare} f)
    ⊢ (bigSep Finset.univ (fun a => anyOf c (slK a)) : sProp 𝕄) := by
  iintro ⟨%f, H⟩
  ihave H := (Entails.of_eq (pointsTo_blocks elK djK cvK f)) $$ H
  iapply (show bigSep Finset.univ (fun a => ((c : Thread nD τ).loc cc0_scratch1) ↦[(slK a).view.set]{fullShare} f) ⊢
    (bigSep Finset.univ (fun a => anyOf c (slK a)) : sProp 𝕄) from bigSep_mono fun a _ => any_intro c (slK a) f)
  iexact H
theorem joinK (c : Dev nD) : (bigSep Finset.univ (fun a => anyOf c (slK a)) : sProp 𝕄)
    ⊢ iprop(∃ f : Buf (Elt F) ((c : Thread nD τ).loc cc0_scratch1), ((c : Thread nD τ).loc cc0_scratch1) ↦{fullShare} f) :=
  pointsTo_blocks_join_exists (ℓ := (c : Thread nD τ).loc cc0_scratch1) elK djK cvK (fun _ => Classical.arbitrary _)

/-- The buffer of rounded rows: its slots are apart and make it up. -/
def elS (a : Fin 2) : Finset S2x1024x1024.Idx := (slS a).view.set
theorem setS (a : Fin 2) : elS a = ((rect2 a).set : Finset S2x1024x1024.Idx) := by
  show (slS a).view.set = _
  rw [Memref.set_view_squeeze]
  show ((Memref.whole cc0_scratch2).view.slice (rect2 a)).set = _
  rw [View.set_slice]
  exact Finset.map_refl
theorem djS (a b : Fin 2) (h : a ≠ b) : Disjoint (elS a) (elS b) := by
  rw [setS, setS]
  exact slot_disjoint _ _ _ _ (fun h' => h (Fin.ext h'))
theorem cvS : Finset.univ.biUnion elS = Finset.univ := by
  refine Finset.eq_univ_of_forall fun i => Finset.mem_biUnion.mpr ⟨(⟨(i (0 : Fin 3)).val, (i (0 : Fin 3)).isLt⟩ : Fin 2), Finset.mem_univ _, ?_⟩
  rw [setS]
  exact slot_mem _ _ _ rfl (fun a => (i a).isLt)
theorem splitS (c : Dev nD) : iprop(∃ f : Buf (Elt F) ((c : Thread nD τ).loc cc0_scratch2), ((c : Thread nD τ).loc cc0_scratch2) ↦{fullShare} f)
    ⊢ (bigSep Finset.univ (fun a => anyOf c (slS a)) : sProp 𝕄) := by
  iintro ⟨%f, H⟩
  ihave H := (Entails.of_eq (pointsTo_blocks elS djS cvS f)) $$ H
  iapply (show bigSep Finset.univ (fun a => ((c : Thread nD τ).loc cc0_scratch2) ↦[(slS a).view.set]{fullShare} f) ⊢
    (bigSep Finset.univ (fun a => anyOf c (slS a)) : sProp 𝕄) from bigSep_mono fun a _ => any_intro c (slS a) f)
  iexact H
theorem joinS (c : Dev nD) : (bigSep Finset.univ (fun a => anyOf c (slS a)) : sProp 𝕄)
    ⊢ iprop(∃ f : Buf (Elt F) ((c : Thread nD τ).loc cc0_scratch2), ((c : Thread nD τ).loc cc0_scratch2) ↦{fullShare} f) :=
  pointsTo_blocks_join_exists (ℓ := (c : Thread nD τ).loc cc0_scratch2) elS djS cvS (fun _ => Classical.arbitrary _)

/-- The buffer of finished rows: its slots are apart and make it up. -/
def elZ (a : Fin 2) : Finset S2x1024x1024.Idx := (slZ a).view.set
theorem setZ (a : Fin 2) : elZ a = ((rect2 a).set : Finset S2x1024x1024.Idx) := by
  show (slS a).view.set = _
  rw [Memref.set_view_squeeze]
  show ((Memref.whole cc0_scratch3).view.slice (rect2 a)).set = _
  rw [View.set_slice]
  exact Finset.map_refl
theorem djZ (a b : Fin 2) (h : a ≠ b) : Disjoint (elZ a) (elZ b) := by
  rw [setZ, setZ]
  exact slot_disjoint _ _ _ _ (fun h' => h (Fin.ext h'))
theorem cvZ : Finset.univ.biUnion elZ = Finset.univ := by
  refine Finset.eq_univ_of_forall fun i => Finset.mem_biUnion.mpr ⟨(⟨(i (0 : Fin 3)).val, (i (0 : Fin 3)).isLt⟩ : Fin 2), Finset.mem_univ _, ?_⟩
  rw [setZ]
  exact slot_mem _ _ _ rfl (fun a => (i a).isLt)
theorem splitZ (c : Dev nD) : iprop(∃ f : Buf (Elt F) ((c : Thread nD τ).loc cc0_scratch3), ((c : Thread nD τ).loc cc0_scratch3) ↦{fullShare} f)
    ⊢ (bigSep Finset.univ (fun a => anyOf c (slZ a)) : sProp 𝕄) := by
  iintro ⟨%f, H⟩
  ihave H := (Entails.of_eq (pointsTo_blocks elZ djZ cvZ f)) $$ H
  iapply (show bigSep Finset.univ (fun a => ((c : Thread nD τ).loc cc0_scratch3) ↦[(slZ a).view.set]{fullShare} f) ⊢
    (bigSep Finset.univ (fun a => anyOf c (slZ a)) : sProp 𝕄) from bigSep_mono fun a _ => any_intro c (slZ a) f)
  iexact H
theorem joinZ (c : Dev nD) : (bigSep Finset.univ (fun a => anyOf c (slZ a)) : sProp 𝕄)
    ⊢ iprop(∃ f : Buf (Elt F) ((c : Thread nD τ).loc cc0_scratch3), ((c : Thread nD τ).loc cc0_scratch3) ↦{fullShare} f) :=
  pointsTo_blocks_join_exists (ℓ := (c : Thread nD τ).loc cc0_scratch3) elZ djZ cvZ (fun _ => Classical.arbitrary _)

/-- The buffer of rows received: its slots are apart and make it up. -/
def elR (a : Fin 8) : Finset S8x1024x1024.Idx := (slR a).view.set
theorem setR (a : Fin 8) : elR a = ((rect8 a).set : Finset S8x1024x1024.Idx) := by
  show (slR a).view.set = _
  rw [Memref.set_view_squeeze]
  show ((Memref.whole cc0_scratch4).view.slice (rect8 a)).set = _
  rw [View.set_slice]
  exact Finset.map_refl
theorem djR (a b : Fin 8) (h : a ≠ b) : Disjoint (elR a) (elR b) := by
  rw [setR, setR]
  exact slot_disjoint _ _ _ _ (fun h' => h (Fin.ext h'))
theorem cvR : Finset.univ.biUnion elR = Finset.univ := by
  refine Finset.eq_univ_of_forall fun i => Finset.mem_biUnion.mpr ⟨(⟨(i (0 : Fin 3)).val, (i (0 : Fin 3)).isLt⟩ : Fin 8), Finset.mem_univ _, ?_⟩
  rw [setR]
  exact slot_mem _ _ _ rfl (fun a => (i a).isLt)
theorem splitR (c : Dev nD) : iprop(∃ f : Buf (Elt F) ((c : Thread nD τ).loc cc0_scratch4), ((c : Thread nD τ).loc cc0_scratch4) ↦{fullShare} f)
    ⊢ (bigSep Finset.univ (fun a => anyOf c (slR a)) : sProp 𝕄) := by
  iintro ⟨%f, H⟩
  ihave H := (Entails.of_eq (pointsTo_blocks elR djR cvR f)) $$ H
  iapply (show bigSep Finset.univ (fun a => ((c : Thread nD τ).loc cc0_scratch4) ↦[(slR a).view.set]{fullShare} f) ⊢
    (bigSep Finset.univ (fun a => anyOf c (slR a)) : sProp 𝕄) from bigSep_mono fun a _ => any_intro c (slR a) f)
  iexact H
theorem joinR (c : Dev nD) : (bigSep Finset.univ (fun a => anyOf c (slR a)) : sProp 𝕄)
    ⊢ iprop(∃ f : Buf (Elt F) ((c : Thread nD τ).loc cc0_scratch4), ((c : Thread nD τ).loc cc0_scratch4) ↦{fullShare} f) :=
  pointsTo_blocks_join_exists (ℓ := (c : Thread nD τ).loc cc0_scratch4) elR djR cvR (fun _ => Classical.arbitrary _)

end Cert.ReduceProof

end
-- ==== Proof.Exit.lean ====
/-
# The end of a device

Every shared semaphore is closed at zero, and the pieces a device ends with make up its buffers.
-/
module

public import proofs.«01_k».proof.Proof.Pieces

@[expose] public section

set_option maxRecDepth 8000

noncomputable section

namespace Cert.ReduceProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Ring

variable {F : FTy → Type} [FloatOps F]

local notation "𝕄" => MT nD τ sig ℕ (Elt F) ℕ UU ℕ

/-! ## The semaphores a device owns -/

/-- A device's own semaphores: those of the local copies, the credits', and those of the transfers. -/
abbrev OK : Type := (Fin 3 ⊕ (Fin 3 ⊕ Fin 2)) ⊕ (Unit ⊕ ((Fin 2 ⊕ Fin 2) ⊕ (Fin 8 ⊕ Fin 16)))

/-- The semaphore of each. -/
def osem : OK → SemLoc sig
  | .inl (.inl k) => .dma (semLF k)
  | .inl (.inr (.inl k)) => .dma (semLK k)
  | .inl (.inr (.inr k)) => .dma (semST k)
  | .inr (.inl _) => csem .cr
  | .inr (.inr (.inl (.inl b))) => csem (.s1 b)
  | .inr (.inr (.inl (.inr b))) => csem (.s2 b)
  | .inr (.inr (.inr (.inl s))) => csem (.r1 s)
  | .inr (.inr (.inr (.inr k))) => csem (.r2 k)

/-- A family over a sum of index types. -/
theorem bigSep_sum {A B : Type} [Fintype A] [Fintype B] [DecidableEq A] [DecidableEq B] (Φ : A ⊕ B → sProp 𝕄) :
    bigSep Finset.univ Φ = iprop(bigSep Finset.univ (fun a => Φ (.inl a)) ∗ bigSep Finset.univ (fun b => Φ (.inr b))) := by
  have h : (Finset.univ : Finset (A ⊕ B)) = Finset.univ.map Function.Embedding.inl ∪ Finset.univ.map Function.Embedding.inr := by
    ext x; cases x <;> simp
  rw [h, bigSep_union (Finset.disjoint_left.mpr fun x h1 h2 => by
    obtain ⟨a, -, rfl⟩ := Finset.mem_map.mp h1
    obtain ⟨b, -, h⟩ := Finset.mem_map.mp h2
    cases h), bigSep_map, bigSep_map]
  rfl

theorem bigSep_unit (Φ : Unit → sProp 𝕄) : bigSep Finset.univ Φ = Φ () := bigSep_univ_eq_bigSepL [()] (by decide) (by decide) Φ
theorem bigSep_fin2 (Φ : Fin 2 → sProp 𝕄) : bigSep Finset.univ Φ = iprop(Φ 0 ∗ Φ 1) :=
  bigSep_univ_eq_bigSepL [0, 1] (by decide) (by decide) Φ
theorem bigSep_fin3 (Φ : Fin 3 → sProp 𝕄) : bigSep Finset.univ Φ = iprop(Φ 0 ∗ Φ 1 ∗ Φ 2) :=
  bigSep_univ_eq_bigSepL [0, 1, 2] (by decide) (by decide) Φ

/-- A family over a device's transfer kinds. -/
abbrev kinds4 (Φ : CK → sProp 𝕄) : sProp 𝕄 :=
  iprop((bigSep Finset.univ (fun b => Φ (.s1 b)) ∗ bigSep Finset.univ (fun b => Φ (.s2 b)))
    ∗ (bigSep Finset.univ (fun s => Φ (.r1 s)) ∗ bigSep Finset.univ (fun k => Φ (.r2 k))))

theorem bigSep_CK (Φ : CK → sProp 𝕄) : bigSep Finset.univ Φ = iprop((Φ .bar ∗ Φ .cr) ∗ kinds4 Φ) := by
  rw [bigSep_univ_equiv ckE.symm Φ, bigSep_sum, bigSep_sum, bigSep_sum, bigSep_sum,
    bigSep_univ_eq_bigSepL [false, true] (by decide) (by decide)]
  rfl

/-- The semaphores of the local copies at zero. -/
abbrev locals0 (c : Dev nD) : sProp 𝕄 :=
  iprop(bigSep Finset.univ (fun k => semVal ((c : Thread nD τ), .dma (semLF k)) 0)
    ∗ bigSep Finset.univ (fun k => semVal ((c : Thread nD τ), .dma (semLK k)) 0)
    ∗ bigSep Finset.univ (fun k => semVal ((c : Thread nD τ), .dma (semST k)) 0))

theorem ownSems0_eq (c : Dev nD) : (Pipeline.ownSems0 (Ix := ℕ) (Name := ℕ) (U := UU) (Lvl := ℕ) (Val := Elt F) (τ := τ) osem c : sProp 𝕄)
    = iprop(locals0 c ∗ semVal (kcell c .cr) 0 ∗ kinds4 (fun k => semVal (kcell c k) 0)) := by
  unfold Pipeline.ownSems0
  rw [bigSep_sum, bigSep_sum, bigSep_sum, bigSep_sum, bigSep_sum, bigSep_sum, bigSep_sum, bigSep_unit]
  rfl

/-! ## Closing -/

variable {m : (ℓ : Loc nD τ sig) → Buf (Elt F) ℓ} {K : Dev nD × CK → ℕ} {Ks : Key → ℕ} (c : Dev nD)

/-- A semaphore whose rounds are over is at zero. -/
theorem close1 (k : CK) (R : ℕ) (h : ∀ r, R ≤ r → kDuties k r = ∅) :
    iprop(recs m K Ks ∗ atPos ER (kcell c k) R ∅ 0) ⊢ |={Set.univ}=> (semVal (kcell c k) 0 : sProp 𝕄) := by
  iintro ⟨#HR, H⟩
  ihave #Hi := (recs_inv m K Ks c k) $$ HR
  iapply (Rounds.cell_close ER (Rd (F := F) m) (g := kcell c k) (κ := K (c, k)) (Set.mem_univ _) (fun h => h) (R := R)
    (fun r hr => by rw [duties_cell]; exact h r hr))
  isplitr; · iexact Hi
  iexact H

/-- The same for a family. -/
theorem closeAll {I : Type} [Fintype I] [DecidableEq I] (k : I → CK) (R : ℕ) (h : ∀ i r, R ≤ r → kDuties (k i) r = ∅) :
    iprop(recs m K Ks ∗ bigSep Finset.univ (fun i => atPos ER (kcell c (k i)) R ∅ 0))
      ⊢ |={Set.univ}=> (bigSep Finset.univ (fun i => semVal (kcell c (k i)) 0) : sProp 𝕄) := by
  refine BIBase.Entails.trans (sep_mono_left (BI.bigSep_of_persistent (Finset.univ : Finset I) (recs m K Ks))) ?_
  rw [← bigSep_sep']
  exact BIBase.Entails.trans (bigSep_mono fun i _ => close1 c (k i) R (h i)) (bigSep_fupd _ _)

/-- The credits: all have been waited for. -/
theorem closeCr : iprop(recs m K Ks ∗ creditSt m c 8) ⊢ |={Set.univ}=> (semVal (kcell c .cr) 0 : sProp 𝕄) := by
  iintro ⟨#HR, H⟩
  ihave H := (creditSt_open c 8) $$ H
  icases H with ⟨%T, %hT, Hat, -, -⟩
  have hu : T = Finset.univ := Finset.eq_univ_of_card T (le_antisymm (Finset.card_le_univ T) (by rw [Fintype.card_fin]; exact hT))
  ihave #Hi := (recs_inv m K Ks c .cr) $$ HR
  imod (Rounds.fupd_skip ER (Rd (F := F) m) (g := kcell c .cr) (κ := K (c, .cr)) (R := 0) (m := 8) (T := T)
    (by rw [hu]; exact Finset.subset_univ _) (by rw [expect_cell]; rfl) (Set.mem_univ _)) $$ [Hat] with ⟨Hat, -⟩
  · isplitr; · iexact Hi
    iexact Hat
  iapply (close1 (m := m) (K := K) (Ks := Ks) c .cr 1 (fun r hr => by show (if r = 0 then _ else _) = _; rw [if_neg (by omega)]))
  isplitr; · iexact HR
  iexact Hat

/-! ## Numbers -/

theorem fin_range (n : ℕ) (r : ℕ → Fin n) (hr : ∀ k : Fin n, r k.val = k) (Φ : Fin n → sProp 𝕄) :
    bigSep (Finset.range n) (fun i => Φ (r i)) = bigSep Finset.univ Φ :=
  (bigSep_fin_eq_range n Φ (fun i => Φ (r i)) (fun t h => congrArg Φ (hr ⟨t, h⟩))).symm

theorem r8_val (k : Fin 8) : r8 k.val = k := Fin.ext (Nat.mod_eq_of_lt k.isLt)
theorem r2_val (k : Fin 2) : r2 k.val = k := Fin.ext (Nat.mod_eq_of_lt k.isLt)

theorem bigSep_shift (a n : ℕ) (A : ℕ → sProp 𝕄) :
    bigSep (Finset.Ico a (a + n)) A = bigSep (Finset.range n) (fun i => A (a + i)) := by
  have h : Finset.Ico a (a + n) = (Finset.range n).map (addLeftEmbedding a) := by
    ext x
    simp only [Finset.mem_Ico, Finset.mem_map, Finset.mem_range, addLeftEmbedding_apply]
    exact ⟨fun ⟨h1, h2⟩ => ⟨x - a, by omega, by omega⟩, fun ⟨y, h1, h2⟩ => ⟨by omega, by omega⟩⟩
  rw [h, bigSep_map]; rfl

theorem slots_fin : (bigSep (Finset.Ico 8 16) (fun i => anyOf c (slR (r8 i))) : sProp 𝕄) = bigSep Finset.univ (fun k => anyOf c (slR k)) := by
  rw [bigSep_shift 8 8, ← fin_range 8 r8 r8_val (fun k => (anyOf c (slR k) : sProp 𝕄))]
  exact bigSep_congr fun i _ => by rw [show r8 (8 + i) = r8 i from Fin.ext (by show (8 + i) % 8 = i % 8; omega)]

theorem rpos_fin : (bigSep (Finset.Ico 16 24) (rpos c) : sProp 𝕄) = bigSep Finset.univ (fun k : Fin 8 => atPos ER (kcell c (.r1 k)) 2 ∅ 0) := by
  rw [bigSep_shift 16 8, ← fin_range 8 r8 r8_val (fun k => (atPos ER (kcell c (.r1 k)) 2 ∅ 0 : sProp 𝕄))]
  exact bigSep_congr fun i hi => by
    have := Finset.mem_range.mp hi
    show (atPos ER (kcell c (.r1 (r8 (16 + i)))) ((16 + i) / 8) ∅ 0 : sProp 𝕄) = _
    rw [show r8 (16 + i) = r8 i from Fin.ext (by show (16 + i) % 8 = i % 8; omega), show (16 + i) / 8 = 2 by omega]

theorem came_fin : (bigSep (Finset.range 16) (came m c) : sProp 𝕄)
    ⊢ iprop(bigSep (Finset.range 16) (got m c) ∗ bigSep Finset.univ (fun k : Fin 16 => atPos ER (kcell c (.r2 k)) 1 ∅ 0)) := by
  rw [← fin_range 16 r16 r16_val (fun k => (atPos ER (kcell c (.r2 k)) 1 ∅ 0 : sProp 𝕄)), ← bigSep_sep']
  refine bigSep_mono fun j _ => ?_
  show iprop(kPay m c (.r2 (r16 j)) 0 0 ∗ atPos ER (kcell c (.r2 (r16 j))) (0 + 1) ∅ 0 ∗ reached ER (kcell c (.r2 (r16 j))) (0 + 1))
    ⊢ iprop(got m c j ∗ atPos ER (kcell c (.r2 (r16 j))) 1 ∅ 0)
  iintro ⟨H, Hat, -⟩
  isplitl [H]
  · iapply (show kPay m c (.r2 (r16 j)) 0 0 ⊢ got m c j from Entails.of_eq rfl); iexact H
  · iexact Hat

/-! ## The end -/

/-- A device's scratch buffers, at any contents. -/
abbrev scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

/-- A device's argument unchanged and its result. -/
abbrev arrays (m : (ℓ : Loc nD τ sig) → Buf (Elt F) ℓ) (c : Dev nD) : sProp 𝕄 :=
  iprop((((c : Thread nD τ).loc main_arg0) ↦{fullShare} m ((c : Thread nD τ).loc main_arg0))
    ∗ (((c : Thread nD τ).loc main_v1) ↦{fullShare} (result m c : Buf (Elt F) ((c : Thread nD τ).loc main_v1))))

/-- What a device hands back. -/
def After (m : (ℓ : Loc nD τ sig) → Buf (Elt F) ℓ) (c : Dev nD) : sProp 𝕄 :=
  iprop((arrays m c ∗ semVal (kcell c .bar) 0)
    ∗ (locals0 c ∗ semVal (kcell c .cr) 0 ∗ kinds4 (fun k => semVal (kcell c k) 0)) ∗ scratch c)

theorem exit_dev : iprop(recs m K Ks ∗ End m c) ⊢ |={Set.univ}=> iprop(After m c ∗ oblig c 0) := by
  unfold End After
  iintro ⟨#HR, ⟨HxF, HxK⟩, ⟨Hd, Hca⟩, ⟨⟨⟨Fa1, Fv1⟩, ⟨Fa2, Fv2⟩, ⟨Fa0, Fv0⟩⟩, ⟨⟨Ka1, Kv1⟩, ⟨Ka2, Kv2⟩, ⟨Ka0, Kv0⟩⟩,
    ⟨⟨Sa0, Sp0⟩, ⟨Sa1, Sp1⟩⟩, ⟨⟨Za0, Zp0, Zv0⟩, ⟨Za1, Zp1, Zv1⟩⟩⟩, ⟨Hsl, Hrp, Hcr, Hbar⟩, Ho⟩
  ihave Hca := (came_fin c) $$ Hca
  icases Hca with ⟨Hgot, Hr2⟩
  imod (close1 (m := m) (K := K) (Ks := Ks) c .bar 1 (fun r hr => by show (if r = 0 then _ else _) = _; rw [if_neg (by omega)])) $$ [Hbar] with Hbar
  · isplitr; · iexact HR
    iexact Hbar
  imod (closeCr (m := m) (K := K) (Ks := Ks) c) $$ [Hcr] with Hcr
  · isplitr; · iexact HR
    iexact Hcr
  imod (closeAll (m := m) (K := K) (Ks := Ks) c (fun b : Fin 2 => .s1 b) 8
    (fun b r hr => by show (if r < 8 then _ else _) = _; rw [if_neg (by omega)])) $$ [Sp0 Sp1] with Hs1
  · isplitr; · iexact HR
    rw [bigSep_fin2]
    isplitl [Sp0]; · iexact Sp0
    iexact Sp1
  imod (closeAll (m := m) (K := K) (Ks := Ks) c (fun b : Fin 2 => .s2 b) 8
    (fun b r hr => by show (if r < 8 then _ else _) = _; rw [if_neg (by omega)])) $$ [Zp0 Zp1] with Hs2
  · isplitr; · iexact HR
    rw [bigSep_fin2]
    isplitl [Zp0]; · iexact Zp0
    iexact Zp1
  imod (closeAll (m := m) (K := K) (Ks := Ks) c (fun s : Fin 8 => .r1 s) 2
    (fun b r hr => by show (if r < 2 then _ else _) = _; rw [if_neg (by omega)])) $$ [Hrp] with Hr1
  · isplitr; · iexact HR
    iapply (Entails.of_eq (rpos_fin c)); iexact Hrp
  imod (closeAll (m := m) (K := K) (Ks := Ks) c (fun k : Fin 16 => .r2 k) 1
    (fun b r hr => by show (if r = 0 then _ else _) = _; rw [if_neg (by omega)])) $$ [Hr2] with Hr2
  · isplitr; · iexact HR
    iexact Hr2
  imodintro
  isplitr [Ho]
  · isplitl [HxF HxK Hd Hgot Hbar]
    · isplitr [Hbar]
      · isplitl [HxF HxK]
        · iapply (arg_join m c)
          isplitl [HxK]; · iexact HxK
          iexact HxF
        · iapply (out_join m c)
          isplitl [Hd]; · iexact Hd
          iexact Hgot
      · iexact Hbar
    isplitl [Fv0 Fv1 Fv2 Kv0 Kv1 Kv2 Zv0 Zv1 Hcr Hs1 Hs2 Hr1 Hr2]
    · isplitl [Fv0 Fv1 Fv2 Kv0 Kv1 Kv2 Zv0 Zv1]
      · isplitl [Fv0 Fv1 Fv2]
        · rw [bigSep_fin3]
          isplitl [Fv0]; · iexact Fv0
          isplitl [Fv1]; · iexact Fv1
          iexact Fv2
        isplitl [Kv0 Kv1 Kv2]
        · rw [bigSep_fin3]
          isplitl [Kv0]; · iexact Kv0
          isplitl [Kv1]; · iexact Kv1
          iexact Kv2
        · rw [bigSep_fin2]
          isplitl [Zv0]; · iexact Zv0
          iexact Zv1
      isplitl [Hcr]; · iexact Hcr
      isplitl [Hs1 Hs2]
      · isplitl [Hs1]; · iexact Hs1
        iexact Hs2
      · isplitl [Hr1]; · iexact Hr1
        iexact Hr2
    · isplitl [Fa0 Fa1 Fa2]
      · iapply (joinF c)
        rw [bigSep_fin3]
        isplitl [Fa0]; · iexact Fa0
        isplitl [Fa1]; · iexact Fa1
        iexact Fa2
      isplitl [Ka0 Ka1 Ka2]
      · iapply (joinK c)
        rw [bigSep_fin3]
        isplitl [Ka0]; · iexact Ka0
        isplitl [Ka1]; · iexact Ka1
        iexact Ka2
      isplitl [Sa0 Sa1]
      · iapply (joinS c)
        rw [bigSep_fin2]
        isplitl [Sa0]; · iexact Sa0
        iexact Sa1
      isplitl [Za0 Za1]
      · iapply (joinZ c)
        rw [bigSep_fin2]
        isplitl [Za0]; · iexact Za0
        iexact Za1
      · iapply (joinR c)
        iapply (Entails.of_eq (slots_fin c)); iexact Hsl
  · iexact Ho

end Cert.ReduceProof

end
-- ==== Proof.Deal.lean ====
/-
# The launch's ghost state

The rounds of every shared semaphore and the receive slots are set up, and each device gets what it pays with: the tokens
of its own semaphores that it completes itself, and those of its peers' that it completes for them.
-/
module

public import proofs.«01_k».proof.Proof.Exit

@[expose] public section

set_option maxRecDepth 8000

noncomputable section

namespace Cert.ReduceProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Ring

variable {F : FTy → Type} [FloatOps F]

local notation "𝕄" => MT nD τ sig ℕ (Elt F) ℕ UU ℕ

variable (m : (ℓ : Loc nD τ sig) → Buf (Elt F) ℓ)

/-! ## Semaphores and duties -/

/-- The semaphore of a device and a kind. -/
abbrev cellAt (p : Dev nD × CK) : GSem nD τ sig := kcell p.1 p.2

theorem cellAt_inj : Function.Injective cellAt := by
  rintro ⟨c, k⟩ ⟨c', k'⟩ h
  have h1 : c = c' := congrArg (fun g : GSem nD τ sig => g.1.1) h
  have h2 : k = k' := csem_inj (congrArg Prod.snd h)
  subst h1; subst h2; rfl

/-- All shared semaphores. -/
def allCells : Finset (GSem nD τ sig) := Finset.univ.map ⟨cellAt, cellAt_inj⟩

/-- A device's duties: two of its barrier, eight credits, and for each chunk one at the two senders' semaphores and one at
the two receivers'. -/
abbrev TK : Type := (Fin 2 ⊕ Fin 8) ⊕ ((Fin 16 ⊕ Fin 16) ⊕ (Fin 16 ⊕ Fin 16))

set_option backward.proofsInPublic true in
/-- The kind, the round and the number of each duty. -/
def duty : TK → CK × ℕ × Fin 8
  | .inl (.inl d) => (.bar, 0, ⟨d.val, by omega⟩)
  | .inl (.inr i) => (.cr, 0, i)
  | .inr (.inl (.inl j)) => (.s1 (r2 j.val), j.val / 2, 0)
  | .inr (.inl (.inr j)) => (.s2 (r2 j.val), j.val / 2, 0)
  | .inr (.inr (.inl j)) => (.r1 (r8 j.val), j.val / 8, 0)
  | .inr (.inr (.inr j)) => (.r2 (r16 j.val), 0, 0)

theorem duty_inj' : ∀ a b : TK, duty a = duty b → a = b := by decide +kernel

/-- A duty of a device, as its semaphore, its round and its number. -/
abbrev dutyAt (p : Dev nD × TK) : GSem nD τ sig × ℕ × Fin 8 := (kcell p.1 (duty p.2).1, (duty p.2).2.1, (duty p.2).2.2)

theorem dutyAt_inj : Function.Injective dutyAt := by
  rintro ⟨c, t⟩ ⟨c', t'⟩ h
  have h0 := cellAt_inj (a₁ := (c, (duty t).1)) (a₂ := (c', (duty t').1)) (congrArg Prod.fst h)
  have h1 : c = c' := congrArg Prod.fst h0
  have h3 := congrArg Prod.snd h
  have h2 : t = t' := duty_inj' _ _ (Prod.ext (congrArg Prod.snd h0) h3)
  subst h1; subst h2; rfl

/-- All duties. -/
def allDuties : Finset (GSem nD τ sig × ℕ × Fin 8) := Finset.univ.map ⟨dutyAt, dutyAt_inj⟩

/-- The launch's ghost state. -/
def u₀ : UU :=
  (initOf (Pipeline.cells cfgs cellOf_inj) (Pipeline.launchToks cfgs cellOf_inj),
    (initOf allCells allDuties, (initSlots (Finset.univ : Finset Key) 1, 1)))

/-! ## A device's tokens -/

abbrev tBar (d : Fin 8) (c : Dev nD) : sProp 𝕄 := dutyTok ER (kcell c .bar) 0 d
abbrev tCred (c : Dev nD) : sProp 𝕄 := bigSep (Finset.range 8) fun i => dutyTok ER (kcell c .cr) 0 (r8 i)
abbrev tS1 (c : Dev nD) : sProp 𝕄 := bigSep (Finset.range 16) fun j => dutyTok ER (kcell c (.s1 (r2 j))) (j / 2) 0
abbrev tS2 (c : Dev nD) : sProp 𝕄 := bigSep (Finset.range 16) fun j => dutyTok ER (kcell c (.s2 (r2 j))) (j / 2) 0
abbrev tRx (c : Dev nD) : sProp 𝕄 := bigSep (Finset.range 16) fun j => dutyTok ER (kcell c (.r1 (r8 j))) (j / 8) 0
abbrev tRz (c : Dev nD) : sProp 𝕄 := bigSep (Finset.range 16) fun j => dutyTok ER (kcell c (.r2 (r16 j))) 0 0

/-- The tokens of a device's own semaphores. -/
def toks (c : Dev nD) : sProp 𝕄 :=
  iprop(((tBar 0 c ∗ tBar 1 c) ∗ tCred c) ∗ ((tS1 c ∗ tS2 c) ∗ (tRx c ∗ tRz c)))

theorem toks_eq (c : Dev nD) :
    (bigSep Finset.univ (fun t : TK => dutyTok ER (kcell c (duty t).1) (duty t).2.1 (duty t).2.2) : sProp 𝕄) = toks c := by
  rw [bigSep_sum, bigSep_sum, bigSep_sum, bigSep_sum, bigSep_sum, bigSep_fin2]
  unfold toks tCred tS1 tS2 tRx tRz
  rw [bigSep_fin_eq_range 8 (fun i : Fin 8 => (dutyTok ER (kcell c (duty (.inl (.inr i))).1) (duty (.inl (.inr i))).2.1 (duty (.inl (.inr i))).2.2 : sProp 𝕄))
      (fun i => dutyTok ER (kcell c .cr) 0 (r8 i)) (fun t h => by rw [show r8 t = ⟨t, h⟩ from r8_val ⟨t, h⟩]; rfl),
    bigSep_fin_eq_range 16 (fun j : Fin 16 => (dutyTok ER (kcell c (duty (.inr (.inl (.inl j)))).1) (duty (.inr (.inl (.inl j)))).2.1 (duty (.inr (.inl (.inl j)))).2.2 : sProp 𝕄))
      (fun j => dutyTok ER (kcell c (.s1 (r2 j))) (j / 2) 0) (fun _ _ => rfl),
    bigSep_fin_eq_range 16 (fun j : Fin 16 => (dutyTok ER (kcell c (duty (.inr (.inl (.inr j)))).1) (duty (.inr (.inl (.inr j)))).2.1 (duty (.inr (.inl (.inr j)))).2.2 : sProp 𝕄))
      (fun j => dutyTok ER (kcell c (.s2 (r2 j))) (j / 2) 0) (fun _ _ => rfl),
    bigSep_fin_eq_range 16 (fun j : Fin 16 => (dutyTok ER (kcell c (duty (.inr (.inr (.inl j)))).1) (duty (.inr (.inr (.inl j)))).2.1 (duty (.inr (.inr (.inl j)))).2.2 : sProp 𝕄))
      (fun j => dutyTok ER (kcell c (.r1 (r8 j))) (j / 8) 0) (fun _ _ => rfl),
    bigSep_fin_eq_range 16 (fun j : Fin 16 => (dutyTok ER (kcell c (duty (.inr (.inr (.inr j)))).1) (duty (.inr (.inr (.inr j)))).2.1 (duty (.inr (.inr (.inr j)))).2.2 : sProp 𝕄))
      (fun j => dutyTok ER (kcell c (.r2 (r16 j))) 0 0) (fun _ _ => rfl)]
  rfl

/-- The tokens a device pays with. -/
def pays (c : Dev nD) : sProp 𝕄 :=
  iprop(((tBar 0 (xp c) ∗ tBar 1 (zp c)) ∗ tCred (xp c)) ∗ ((tS1 c ∗ tS2 c) ∗ (tRx (xp c) ∗ tRz (zp c))))

theorem pays_eq : (bigSep Finset.univ (fun c : Dev nD => (toks c : sProp 𝕄))) = bigSep Finset.univ (fun c : Dev nD => pays c) := by
  unfold toks pays
  simp only [bigSep_sep']
  rw [bigSep_univ_equiv xpE (fun c : Dev nD => (tBar 0 c : sProp 𝕄)), bigSep_univ_equiv zpE (fun c : Dev nD => (tBar 1 c : sProp 𝕄)),
    bigSep_univ_equiv xpE (fun c : Dev nD => (tCred c : sProp 𝕄)), bigSep_univ_equiv xpE (fun c : Dev nD => (tRx c : sProp 𝕄)),
    bigSep_univ_equiv zpE (fun c : Dev nD => (tRz c : sProp 𝕄))]
  rfl

/-! ## Dealing -/

/-- What a device gets of the receive slots: that all are set up, its own readers' places, its peer's first tokens. -/
def slotsOf (c : Dev nD) : sProp 𝕄 :=
  iprop(∃ Ks : Key → ℕ, (bigSep Finset.univ fun k : Key => sinv (F := F) Ks k)
    ∗ (bigSep (Finset.range 8) fun i => readerAt ES (c, r8 i) 0) ∗ (bigSep (Finset.range 8) fun i => writeTok ES (xp c, r8 i) 1))

/-- What the launch's ghost state gives a device. -/
def G (c : Dev nD) : sProp 𝕄 :=
  iprop((bigSep Finset.univ fun k : CK => roundState ER (Rd m) (kcell c k) 0)
    ∗ ((bigSep Finset.univ fun k : CK => atPos ER (kcell c k) 0 ∅ 0) ∗ (bigSep Finset.univ fun k : CK => reached ER (kcell c k) 0))
    ∗ pays c ∗ slotsOf c)

theorem over_cells (Φ : GSem nD τ sig → sProp 𝕄) :
    bigSep allCells Φ = bigSep Finset.univ fun c : Dev nD => bigSep Finset.univ fun k : CK => Φ (kcell c k) := by
  unfold allCells; rw [bigSep_map, bigSep_univ_prod]; rfl

theorem over_duties : (bigSep allDuties (fun x => dutyTok ER x.1 x.2.1 x.2.2) : sProp 𝕄) = bigSep Finset.univ fun c : Dev nD => pays c := by
  unfold allDuties; rw [bigSep_map, bigSep_univ_prod, ← pays_eq]
  exact bigSep_congr fun c _ => toks_eq c

theorem over_keys (Φ : Key → sProp 𝕄) :
    bigSep Finset.univ Φ = bigSep Finset.univ fun c : Dev nD => bigSep (Finset.range 8) fun i => Φ (c, r8 i) := by
  rw [bigSep_univ_prod]
  exact bigSep_congr fun c _ => (fin_range 8 r8 r8_val (fun s => Φ (c, s))).symm

theorem over_writes : (bigSep ((Finset.univ : Finset Key) ×ˢ Finset.range 1) (fun x => writeTok ES x.1 (x.2 + 1)) : sProp 𝕄)
    = bigSep Finset.univ fun c : Dev nD => bigSep (Finset.range 8) fun i => writeTok ES (xp c, r8 i) 1 := by
  have h : (Finset.univ : Finset Key) ×ˢ Finset.range 1 = Finset.univ.map ⟨fun k : Key => (k, 0), fun a b h => congrArg Prod.fst h⟩ := by
    ext ⟨k, n⟩
    simp only [Finset.mem_product, Finset.mem_univ, true_and, Finset.mem_range, Finset.mem_map, Function.Embedding.coeFn_mk]
    constructor
    · intro h; obtain rfl : n = 0 := by omega
      exact ⟨k, rfl⟩
    · rintro ⟨a, ha⟩; have h0 : 0 = n := congrArg Prod.snd ha
      omega
  rw [h, bigSep_map]
  show bigSep Finset.univ (fun k : Key => (writeTok ES k 1 : sProp 𝕄)) = _
  rw [over_keys, bigSep_univ_equiv xpE]
  rfl

theorem slots_deal : BI.own (ES (initSlots (Finset.univ : Finset Key) 1)) ⊢ |={Set.univ}=> (bigSep Finset.univ fun c : Dev nD => slotsOf (F := F) c : sProp 𝕄) := by
  iintro H
  imod (slots_init ES (Finset.univ : Finset Key) 1 (fun k => (anyOf k.1 (slR k.2) : sProp 𝕄)) (Es := Set.univ)) $$ H with ⟨%Ks, -, #HI, Hr, Hw⟩
  imodintro
  ihave Hr := (Entails.of_eq (over_keys (fun k => (readerAt ES k 0 : sProp 𝕄)))) $$ Hr
  ihave Hw := (Entails.of_eq (over_writes (F := F))) $$ Hw
  iapply (show iprop((bigSep Finset.univ fun k : Key => sinv (F := F) Ks k)
      ∗ ((bigSep Finset.univ fun c : Dev nD => bigSep (Finset.range 8) fun i => readerAt ES (c, r8 i) 0)
      ∗ (bigSep Finset.univ fun c : Dev nD => bigSep (Finset.range 8) fun i => writeTok ES (xp c, r8 i) 1)))
      ⊢ (bigSep Finset.univ fun c : Dev nD => slotsOf (F := F) c : sProp 𝕄) from by
    refine BIBase.Entails.trans (sep_mono_left (BI.bigSep_of_persistent (Finset.univ : Finset (Dev nD)) _)) ?_
    rw [← bigSep_sep', ← bigSep_sep']
    refine bigSep_mono fun c _ => ?_
    show iprop((bigSep Finset.univ fun k : Key => sinv (F := F) Ks k) ∗ ((bigSep (Finset.range 8) fun i => readerAt ES (c, r8 i) 0)
      ∗ (bigSep (Finset.range 8) fun i => writeTok ES (xp c, r8 i) 1))) ⊢ slotsOf c
    unfold slotsOf
    iintro H
    iexists Ks
    iexact H)
  isplitr; · iexact HI
  isplitl [Hr]; · iexact Hr
  iexact Hw

theorem deal : BI.own (EQ (initOf allCells allDuties, (initSlots (Finset.univ : Finset Key) 1, (1 : Counters))))
    ⊢ |={Set.univ}=> (bigSep Finset.univ (G (F := F) m) : sProp 𝕄) := by
  iintro H
  ihave H := (own_pair_emb EQ _ _) $$ H
  icases H with ⟨HX, H⟩
  ihave H := (own_pair_emb _ _ _) $$ H
  icases H with ⟨HS, -⟩
  imod (Rounds.fund ER (Rd m) allCells allDuties) $$ HX with ⟨Hst, Hr, Hat, Htok⟩
  imod (slots_deal (F := F)) $$ HS with HS
  imodintro
  ihave Hst := (Entails.of_eq (over_cells fun g => roundState ER (Rd m) g 0)) $$ Hst
  ihave Hat := (Entails.of_eq (over_cells (F := F) fun g => atPos ER g 0 ∅ 0)) $$ Hat
  ihave Hr := (Entails.of_eq (over_cells (F := F) fun g => reached ER g 0)) $$ Hr
  ihave Htok := (Entails.of_eq (over_duties (F := F))) $$ Htok
  unfold G; simp only [bigSep_sep']
  isplitl [Hst]; · iexact Hst
  isplitl [Hat Hr]
  · isplitl [Hat] <;> iassumption
  isplitl [Htok] <;> iassumption

/-! ## The shared semaphores set up -/

/-- What each device starts from, besides its buffers, credit and levels. -/
def mine (c : Dev nD) : sProp 𝕄 :=
  iprop(locals0 c ∗ (bigSep Finset.univ fun k : CK => atPos ER (kcell c k) 0 ∅ 0) ∗ pays c
    ∗ (bigSep (Finset.range 8) fun i => readerAt ES (c, r8 i) 0) ∗ (bigSep (Finset.range 8) fun i => writeTok ES (xp c, r8 i) 1))

/-- The invariants and the launch's marks. -/
def known (K : Dev nD × CK → ℕ) : sProp 𝕄 :=
  iprop((bigSep Finset.univ fun p : Dev nD × CK => inv m K p.1 p.2) ∗ (bigSep Finset.univ fun p : Dev nD × CK => reached ER (kcell p.1 p.2) 0))

instance known_persistent (K : Dev nD × CK → ℕ) : BI.Persistent (known (F := F) m K) := by unfold known; infer_instance

/-- What the set-up gives a device. -/
def G' (c : Dev nD) : sProp 𝕄 :=
  iprop(∃ K : Dev nD × CK → ℕ, ∃ Ks : Key → ℕ, known m K ∗ (bigSep Finset.univ fun k : Key => sinv (F := F) Ks k) ∗ mine c)

theorem unscopedSems0_eq (c : Dev nD) : (unscopedSems0 c : sProp 𝕄) = semVal (kcell c .bar) 0 := by
  unfold unscopedSems0; rw [bigSep_eq_bigSepL_of_eq [csem .bar] (by decide) (by decide)]; rfl

theorem sems0 (c : Dev nD) :
    iprop(Pipeline.ownSems0 (Ix := ℕ) (Name := ℕ) (U := UU) (Lvl := ℕ) (Val := Elt F) (τ := τ) osem c ∗ unscopedSems0 c)
      ⊢ (iprop((bigSep Finset.univ fun k : CK => semVal (kcell c k) 0) ∗ locals0 c) : sProp 𝕄) := by
  rw [ownSems0_eq, unscopedSems0_eq, bigSep_CK]
  iintro ⟨⟨HL, Hcr, H4⟩, HB⟩
  isplitr [HL]
  · isplitl [Hcr HB]
    · isplitl [HB]; · iexact HB
      iexact Hcr
    · iexact H4
  · iexact HL

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> (iprop((bigSep Finset.univ fun k : CK => iprop(∃ κ : ℕ, cellInv ER (Rd m) κ (kcell c k)))
          ∗ (bigSep Finset.univ fun k : CK => reached ER (kcell c k) 0)
          ∗ (locals0 c ∗ (bigSep Finset.univ fun k : CK => atPos ER (kcell c k) 0 ∅ 0) ∗ pays c ∗ slotsOf c)) : sProp 𝕄) := by
  unfold G
  iintro ⟨Hos, Hus, Hst, ⟨Hat, Hr⟩, Htok, Hsl⟩
  ihave Hv := (sems0 (F := F) c) $$ [Hos Hus]
  · isplitl [Hos] <;> iassumption
  icases Hv with ⟨Hv, HL⟩
  imod (show iprop((bigSep Finset.univ fun k : CK => semVal (kcell c k) 0) ∗ bigSep Finset.univ fun k : CK => roundState ER (Rd m) (kcell c k) 0)
      ⊢ (|={Set.univ}=> bigSep Finset.univ fun k => iprop(∃ κ : ℕ, cellInv ER (Rd m) κ (kcell c k)) : sProp 𝕄) from by
        rw [← bigSep_sep']
        exact (bigSep_mono fun k _ => (Rounds.body_intro ER (Rd m) (kcell c k)).trans inv_alloc).trans (bigSep_fupd _ _)) $$ [Hv Hst] with Hinv
  · isplitl [Hv] <;> iassumption
  imodintro
  isplitl [Hinv]; · iexact Hinv
  isplitl [Hr]; · iexact Hr
  isplitl [HL]; · iexact HL
  isplitl [Hat]; · iexact Hat
  isplitl [Htok] <;> iassumption

theorem regroup :
    (bigSep Finset.univ fun c : Dev nD => iprop((bigSep Finset.univ fun k : CK => iprop(∃ κ : ℕ, cellInv ER (Rd m) κ (kcell c k)))
          ∗ (bigSep Finset.univ fun k : CK => reached ER (kcell c k) 0)
          ∗ (locals0 c ∗ (bigSep Finset.univ fun k : CK => atPos ER (kcell c k) 0 ∅ 0) ∗ pays c ∗ slotsOf c)) : sProp 𝕄)
      ⊢ bigSep Finset.univ (G' m) := by
  rw [bigSep_sep', bigSep_sep', ← bigSep_univ_prod (fun p : Dev nD × CK => iprop(∃ κ : ℕ, cellInv ER (Rd m) κ (kcell p.1 p.2))),
    ← bigSep_univ_prod (fun p : Dev nD × CK => (reached ER (kcell p.1 p.2) 0 : sProp 𝕄))]
  iintro ⟨HI, #HR, H⟩
  ihave HK := (BI.bigSep_exists_pi Finset.univ (fun (p : Dev nD × CK) (κ : ℕ) => (cellInv ER (Rd m) κ (kcell p.1 p.2) : sProp 𝕄))) $$ HI
  icases HK with ⟨%K, #HI⟩
  iapply (show iprop(known m K ∗ (bigSep Finset.univ fun c : Dev nD => iprop(locals0 c ∗ (bigSep Finset.univ fun k : CK => atPos ER (kcell c k) 0 ∅ 0) ∗ pays c ∗ slotsOf c)))
      ⊢ (bigSep Finset.univ (G' m) : sProp 𝕄) from by
    refine BIBase.Entails.trans (sep_mono_left (BI.bigSep_of_persistent (Finset.univ : Finset (Dev nD)) _)) ?_
    rw [← bigSep_sep']
    refine bigSep_mono fun c _ => ?_
    show iprop(known m K ∗ (locals0 c ∗ (bigSep Finset.univ fun k : CK => atPos ER (kcell c k) 0 ∅ 0) ∗ pays c ∗ slotsOf c)) ⊢ G' m c
    unfold G' slotsOf mine
    iintro ⟨Hkn, HL, Hat, Hp, ⟨%Ks, Hs, Hr, Hw⟩⟩
    iexists K
    iexists Ks
    isplitl [Hkn]; · iexact Hkn
    isplitl [Hs]; · iexact Hs
    isplitl [HL]; · iexact HL
    isplitl [Hat]; · iexact Hat
    isplitl [Hp]; · iexact Hp
    isplitl [Hr] <;> iassumption)
  isplitr
  · unfold known
    isplitl; · iexact HI
    iexact HR
  · iexact H

/-- The set-up of all devices at once. -/
theorem glob : (bigSep Finset.univ fun c : Dev nD => iprop(Pipeline.ownSems0 (Ix := ℕ) (Name := ℕ) (U := UU) (Lvl := ℕ) (Val := Elt F) (τ := τ) osem c
      ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The launch's credit -/

variable (c : Dev nD)

/-- A debt every device has to a peer is a credit every device has. -/
theorem cred_xp (k : CK) (i n : ℕ) : (Pipeline.launchCred (fun d : Dev nD => tallyAt (kcell (xp d) k) i n) c : sProp 𝕄) ⊢ cred (tallyAt (kcell c k) i n) :=
  Pipeline.launchCred_tallyAt (csem k) xp xp xp_xp xp_xp i n c
theorem cred_zp (k : CK) (i n : ℕ) : (Pipeline.launchCred (fun d : Dev nD => tallyAt (kcell (zp d) k) i n) c : sProp 𝕄) ⊢ cred (tallyAt (kcell c k) i n) :=
  Pipeline.launchCred_tallyAt (csem k) zp zp zp_zp zp_zp i n c

/-- The credit a device has at launch. -/
def credits (c : Dev nD) : sProp 𝕄 :=
  iprop(cred (tallyAt (kcell c .bar) 0 2)
    ∗ (bigSep (Finset.range 16) fun j => cred (tallyAt (kcell c (.r1 (r8 j))) j NB))
    ∗ (bigSep (Finset.range 8) fun i => cred (tallyAt (kcell c .cr) i 1))
    ∗ (bigSep (Finset.range 16) fun j => cred (tallyAt (kcell c (.r2 (r16 j))) j NB)))

theorem over_mono (n : ℕ) {Φ Ψ : ℕ → sProp 𝕄} (h : ∀ j, Φ j ⊢ Ψ j) : bigSep (Finset.Ico 0 n) Φ ⊢ bigSep (Finset.range n) Ψ := by
  rw [← Finset.range_eq_Ico]; exact bigSep_mono fun j _ => h j

theorem credits_intro : (Pipeline.launchCred owe0 c : sProp 𝕄) ⊢ credits c := by
  have h : (owe0 : Dev nD → CellTallies nD τ sig ℕ) = fun d => (((fun d => ∑ j ∈ Finset.Ico 0 16, tR1 d j) d + (fun d => ∑ j ∈ Finset.Ico 0 8, tCr d j) d)
      + (fun d => ∑ j ∈ Finset.Ico 0 16, tR2 d j) d + tallyAt (kcell (zp d) .bar) 0 1) + tallyAt (kcell (xp d) .bar) 0 1 := rfl
  rw [h]
  rw [Pipeline.launchCred_add (fun d => ((fun d => ∑ j ∈ Finset.Ico 0 16, tR1 d j) d + (fun d => ∑ j ∈ Finset.Ico 0 8, tCr d j) d)
      + (fun d => ∑ j ∈ Finset.Ico 0 16, tR2 d j) d + tallyAt (kcell (zp d) .bar) 0 1) (fun d => tallyAt (kcell (xp d) .bar) 0 1)]
  rw [Pipeline.launchCred_add (fun d => ((fun d => ∑ j ∈ Finset.Ico 0 16, tR1 d j) d + (fun d => ∑ j ∈ Finset.Ico 0 8, tCr d j) d)
      + (fun d => ∑ j ∈ Finset.Ico 0 16, tR2 d j) d) (fun d => tallyAt (kcell (zp d) .bar) 0 1)]
  rw [Pipeline.launchCred_add (fun d => (fun d => ∑ j ∈ Finset.Ico 0 16, tR1 d j) d + (fun d => ∑ j ∈ Finset.Ico 0 8, tCr d j) d)
      (fun d => ∑ j ∈ Finset.Ico 0 16, tR2 d j)]
  rw [Pipeline.launchCred_add (fun d => ∑ j ∈ Finset.Ico 0 16, tR1 d j) (fun d => ∑ j ∈ Finset.Ico 0 8, tCr d j)]
  rw [Pipeline.launchCred_sum _ (fun j d => tR1 d j), Pipeline.launchCred_sum _ (fun j d => tCr d j), Pipeline.launchCred_sum _ (fun j d => tR2 d j)]
  unfold credits
  iintro ⟨⟨⟨⟨H1, Hc⟩, H2⟩, Hz⟩, Hx⟩
  isplitl [Hz Hx]
  · ihave Hz := (cred_zp c .bar 0 1) $$ Hz
    ihave Hx := (cred_xp c .bar 0 1) $$ Hx
    iapply (show iprop(cred (tallyAt (kcell c .bar) 0 1) ∗ cred (tallyAt (kcell c .bar) 0 1)) ⊢ (cred (tallyAt (kcell c .bar) 0 2) : sProp 𝕄) from by
      rw [show (tallyAt (kcell c .bar) 0 2 : CellTallies nD τ sig ℕ) = tallyAt (kcell c .bar) 0 1 + tallyAt (kcell c .bar) 0 1 from
        (tallyAt_add _ _ 1 1).symm]
      exact (cred_add _ _).2)
    isplitl [Hz] <;> iassumption
  isplitl [H1]
  · iapply (over_mono (16) (fun j => cred_xp (F := F) c (.r1 (r8 j)) j NB)); iexact H1
  isplitl [Hc]
  · iapply (over_mono (8) (fun j => cred_xp (F := F) c .cr j 1)); iexact Hc
  · iapply (over_mono (16) (fun j => cred_zp (F := F) c (.r2 (r16 j)) j NB)); iexact H2

end Cert.ReduceProof

end
-- ==== Proof.Run.lean ====
/-
# The run

From the launch on, every device runs its body and hands back its buffers; every run of the program ends with the argument
as it was, the result on every device, and every counter at zero.
-/
module

public import Idealize.ShloMosaic.Lib.Pipeline.CollectiveSegs
public import Idealize.ShloMosaic.Lib.Quiescent
public import proofs.«01_k».proof.Proof.Deal

@[expose] public section

set_option maxRecDepth 8000

noncomputable section

namespace Cert.ReduceProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Ring

variable {F : FTy → Type} [FloatOps F]

local notation "𝕄" => MT nD τ sig ℕ (Elt F) ℕ UU ℕ

variable (m : (ℓ : Loc nD τ sig) → Buf (Elt F) ℓ)

/-! ## The start of a device -/

/-- A device's argument and its result buffer, at the launch's contents. -/
abbrev given (c : Dev nD) : sProp 𝕄 :=
  iprop((((c : Thread nD τ).loc main_arg0) ↦{fullShare} m ((c : Thread nD τ).loc main_arg0))
    ∗ (((c : Thread nD τ).loc main_v1) ↦{fullShare} m ((c : Thread nD τ).loc main_v1)))

/-- The positions in the rounds, by kind. -/
theorem places (c : Dev nD) : (bigSep Finset.univ (fun k : CK => atPos ER (kcell c k) 0 ∅ 0) : sProp 𝕄)
    ⊢ iprop(atPos ER (kcell c .bar) 0 ∅ 0 ∗ atPos ER (kcell c .cr) 0 ∅ 0
      ∗ (atPos ER (kcell c (.s1 (r2 0))) 0 ∅ 0 ∗ atPos ER (kcell c (.s1 (r2 1))) 0 ∅ 0)
      ∗ (atPos ER (kcell c (.s2 (r2 0))) 0 ∅ 0 ∗ atPos ER (kcell c (.s2 (r2 1))) 0 ∅ 0)
      ∗ bigSep (Finset.range 8) (rpos c) ∗ bigSep (Finset.range 16) (fun j => atPos ER (kcell c (.r2 (r16 j))) 0 ∅ 0)) := by
  have h8 : (bigSep (Finset.range 8) (rpos c) : sProp 𝕄) = bigSep Finset.univ (fun k : Fin 8 => atPos ER (kcell c (.r1 k)) 0 ∅ 0) := by
    rw [← fin_range 8 r8 r8_val (fun k => (atPos ER (kcell c (.r1 k)) 0 ∅ 0 : sProp 𝕄))]
    exact bigSep_congr fun j hj => by unfold rpos; rw [Nat.div_eq_of_lt (Finset.mem_range.mp hj)]
  rw [bigSep_CK, h8, fin_range 16 r16 r16_val (fun k => (atPos ER (kcell c (.r2 k)) 0 ∅ 0 : sProp 𝕄))]
  unfold kinds4
  rw [bigSep_fin2, bigSep_fin2]
  iintro ⟨⟨HB, HC⟩, ⟨H1, H2⟩, ⟨H3, H4⟩⟩
  isplitl [HB]; · iexact HB
  isplitl [HC]; · iexact HC
  isplitl [H1]; · iexact H1
  isplitl [H2]; · iexact H2
  isplitl [H3]; · iexact H3
  iexact H4

/-- The idle load slots and the slots of the senders, from the scratch buffers. -/
theorem idle (c : Dev nD) : iprop(scratch c ∗ locals0 c)
    ⊢ (iprop((idleF c 0 ∗ idleF c 1 ∗ idleF c 2) ∗ (idleK c 0 ∗ idleK c 1 ∗ idleK c 2) ∗ (anyOf c (slS (r2 0)) ∗ anyOf c (slS (r2 1)))
      ∗ ((anyOf c (slZ (r2 0)) ∗ semVal ((c : Thread nD τ), .dma (semST (r2 0))) 0) ∗ (anyOf c (slZ (r2 1)) ∗ semVal ((c : Thread nD τ), .dma (semST (r2 1))) 0))
      ∗ slots c) : sProp 𝕄) := by
  unfold scratch locals0
  iintro ⟨⟨HF, HK, HS, HZ, HR⟩, HLF, HLK, HST⟩
  ihave HF := (splitF c) $$ HF
  ihave HK := (splitK c) $$ HK
  ihave HS := (splitS c) $$ HS
  ihave HZ := (splitZ c) $$ HZ
  ihave HR := (splitR c) $$ HR
  ihave HF := (Entails.of_eq (bigSep_fin3 _)) $$ HF
  ihave HK := (Entails.of_eq (bigSep_fin3 _)) $$ HK
  ihave HS := (Entails.of_eq (bigSep_fin2 _)) $$ HS
  ihave HZ := (Entails.of_eq (bigSep_fin2 _)) $$ HZ
  ihave HLF := (Entails.of_eq (bigSep_fin3 _)) $$ HLF
  ihave HLK := (Entails.of_eq (bigSep_fin3 _)) $$ HLK
  ihave HST := (Entails.of_eq (bigSep_fin2 _)) $$ HST
  icases HF with ⟨F0, F1, F2⟩
  icases HK with ⟨K0, K1, K2⟩
  icases HS with ⟨S0, S1⟩
  icases HZ with ⟨Z0, Z1⟩
  icases HLF with ⟨f0, f1, f2⟩
  icases HLK with ⟨k0, k1, k2⟩
  icases HST with ⟨s0, s1⟩
  isplitl [F0 F1 F2 f0 f1 f2]
  · isplitl [F0 f0]
    · isplitl [F0]; · iexact F0
      iexact f0
    isplitl [F1 f1]
    · isplitl [F1]; · iexact F1
      iexact f1
    · isplitl [F2]; · iexact F2
      iexact f2
  isplitl [K0 K1 K2 k0 k1 k2]
  · isplitl [K0 k0]
    · isplitl [K0]; · iexact K0
      iexact k0
    isplitl [K1 k1]
    · isplitl [K1]; · iexact K1
      iexact k1
    · isplitl [K2]; · iexact K2
      iexact k2
  isplitl [S0 S1]
  · isplitl [S0]; · iexact S0
    iexact S1
  isplitl [Z0 Z1 s0 s1]
  · isplitl [Z0 s0]
    · isplitl [Z0]; · iexact Z0
      iexact s0
    · isplitl [Z1]; · iexact Z1
      iexact s1
  · unfold slots
    rw [fin_range 8 r8 r8_val (fun k => (anyOf c (slR k) : sProp 𝕄))]
    iexact HR

/-- The tokens of chunk sending, by chunk. -/
theorem tokA_intro (c : Dev nD) : iprop(tS1 c ∗ tRx (xp c)) ⊢ (bigSep (Finset.range 16) (tokA c) : sProp 𝕄) := by
  unfold tS1 tRx; rw [← bigSep_sep']
theorem tokB_intro (c : Dev nD) : iprop(tS2 c ∗ tRz (zp c) ∗ bigSep (Finset.range 16) (fun j => cred (tallyAt (kcell c (.r1 (r8 j))) j NB)))
    ⊢ (bigSep (Finset.range 16) (tokB c) : sProp 𝕄) := by
  unfold tS2 tRz; rw [← bigSep_sep', ← bigSep_sep']
theorem coming_intro (c : Dev nD) : iprop(bigSep (Finset.range 16) (fun j => cred (tallyAt (kcell c (.r2 (r16 j))) j NB))
      ∗ bigSep (Finset.range 16) (fun j => atPos ER (kcell c (.r2 (r16 j))) 0 ∅ 0)) ⊢ (bigSep (Finset.range 16) (coming c) : sProp 𝕄) := by
  rw [← bigSep_sep']
theorem freeing_intro (c : Dev nD) : iprop((bigSep (Finset.range 8) fun i => readerAt ES (c, r8 i) 0) ∗ tCred (xp c))
    ⊢ (bigSep (Finset.range 8) (freeing c) : sProp 𝕄) := by
  unfold tCred; rw [← bigSep_sep']
theorem again_intro (c : Dev nD) : (bigSep (Finset.range 8) (fun i => writeTok ES (xp c, r8 i) 1) : sProp 𝕄)
    ⊢ bigSep (Finset.Ico 8 16) (fun j => writeTok ES (xp c, r8 j) 1) := by
  rw [show (Finset.Ico 8 16 : Finset ℕ) = Finset.Ico 8 (8 + 8) from rfl, bigSep_shift]
  exact bigSep_mono fun j _ => by
    show (writeTok ES (xp c, r8 j) 1 : sProp 𝕄) ⊢ writeTok ES (xp c, r8 (8 + j)) 1
    rw [show r8 (8 + j) = r8 j from Fin.ext (by show (8 + j) % 8 = j % 8; omega)]

theorem begin_dev (c : Dev nD) : iprop(mine c ∗ credits c ∗ given m c ∗ scratch c) ⊢ iprop(forH c ∗ forRest m c) := by
  unfold mine credits pays given
  iintro ⟨⟨HL, Hat, ⟨⟨⟨Tb0, Tb1⟩, Tc⟩, ⟨⟨Ts1, Ts2⟩, ⟨Tr1, Tr2⟩⟩⟩, Hrd, Hwr⟩, ⟨Cb, C1, Cc, C2⟩, ⟨Hx, Ho⟩, Hs⟩
  ihave Hat := (places c) $$ Hat
  icases Hat with ⟨Pb, Pc, ⟨P10, P11⟩, ⟨P20, P21⟩, Pr1, Pr2⟩
  ihave Hs := (idle c) $$ [Hs HL]
  · isplitl [Hs]; · iexact Hs
    iexact HL
  icases Hs with ⟨HF, HK, ⟨S0, S1⟩, ⟨⟨Z0, z0⟩, ⟨Z1, z1⟩⟩, HR⟩
  ihave Hx := (arg_split m c) $$ Hx
  icases Hx with ⟨HxK, HxF⟩
  ihave Ho := (out_split c _) $$ Ho
  icases Ho with ⟨Hoc, Hoz⟩
  isplitl [Tb0 Tb1 HR Hoz Cb Pb]
  · isplitl [Tb0]; · iexact Tb0
    isplitl [Tb1]; · iexact Tb1
    isplitl [HR]; · iexact HR
    isplitl [Hoz]; · iexact Hoz
    isplitl [Cb]; · iexact Cb
    iexact Pb
  unfold forRest
  isplitl [HxF HxK Hoc]
  · isplitl [HxF]; · iexact HxF
    isplitl [HxK]; · iexact HxK
    iexact Hoc
  isplitl [HF HK S0 S1 Z0 z0 Z1 z1 P10 P11 P20 P21]
  · isplitl [HF]; · iexact HF
    isplitl [HK]; · iexact HK
    isplitl [S0 S1 P10 P11]
    · isplitl [S0 P10]
      · unfold slotX; rw [if_pos (by decide)]
        isplitl [S0]; · iexact S0
        iexact P10
      · unfold slotX; rw [if_pos (by decide)]
        isplitl [S1]; · iexact S1
        iexact P11
    · isplitl [Z0 z0 P20]
      · unfold slotZ; rw [if_pos (by decide)]
        isplitl [Z0]; · iexact Z0
        isplitl [P20]; · iexact P20
        iexact z0
      · unfold slotZ; rw [if_pos (by decide)]
        isplitl [Z1]; · iexact Z1
        isplitl [P21]; · iexact P21
        iexact z1
  isplitl [Ts1 Tr1 Ts2 Tr2 C1 Hwr Hrd Tc]
  · isplitl [Ts1 Tr1]
    · iapply (tokA_intro c)
      isplitl [Ts1]; · iexact Ts1
      iexact Tr1
    isplitl [Ts2 Tr2 C1]
    · iapply (tokB_intro c)
      isplitl [Ts2]; · iexact Ts2
      isplitl [Tr2]; · iexact Tr2
      iexact C1
    isplitl [Hwr]
    · iapply (again_intro c); iexact Hwr
    · iapply (freeing_intro c)
      isplitl [Hrd]; · iexact Hrd
      iexact Tc
  isplitl [Pr1]; · iexact Pr1
  isplitl [Pc Cc]
  · unfold creditSt
    iexists (∅ : Finset (Fin 8))
    isplitr; · ipureintro; exact Nat.zero_le _
    isplitl [Pc]; · iexact Pc
    isplitr; · rw [bigSep_empty]; iempintro
    rw [← Finset.range_eq_Ico]; iexact Cc
  · iapply (coming_intro c)
    isplitl [C2]; · iexact C2
    iexact Pr2

/-! ## The body of a device -/

/-- What a device's body starts from. -/
def start (c : Dev nD) : sProp 𝕄 := iprop(G' m c ∗ levAts L lv ∗ credits c ∗ given m c)

/-- The same with the scratch buffers. -/
def Φ₀ (c : Dev nD) : sProp 𝕄 := iprop(start m c ∗ scratch c)

/-- The launch's data: no windows, one point. -/
def dats (_ : Fin 1) (c : Dev nD) : Pipeline.Dat τ (Elt F) ℕ ℕ UU ℕ cfg0 c where
  A w := w.elim0
  after w _ := w.elim0
  Φ t := match t with
    | ⟨0, _⟩ => Φ₀ m c
    | ⟨_ + 1, _⟩ => After m c
  q _ := fullShare
  owed t := match t with
    | ⟨0, _⟩ => owe0 c
    | ⟨_ + 1, _⟩ => 0

theorem sound (c : Dev nD) : iprop(Φ₀ m c ∗ oblig c (owe0 c)) ⊢ run c (bodySteps (F := F)) (fun _ => iprop(After m c ∗ oblig c 0)) := by
  have h : run c (bodySteps (F := F)) (fun _ => iprop(After m c ∗ oblig c 0))
      = run c (devSteps c >>= fun x => pure x) (fun _ => iprop(After m c ∗ oblig c 0)) := by
    rw [bodySteps_eq]; unfold run
    simp only [Prog.lift, Prog.bind_op, Prog.bind_ret, wp_deviceId, bind_pure]
  rw [h]
  unfold Φ₀ start G'
  iintro ⟨⟨⟨⟨%K, %Ks, #Hk, #Hs, Hmine⟩, #Hlev, Hcr, Hg⟩, Hsc⟩, Ho⟩
  ihave #HR : recs m K Ks $$ []
  · unfold recs known
    icases Hk with ⟨#H1, #H2⟩
    isplitr; · iexact H1
    isplitr; · iexact H2
    isplitr; · iexact Hs
    iexact Hlev
  iapply (Tri.at (dev_tri c) _ _) $$ [Hmine Hcr Hg Hsc Ho]
  · isplitr; · iexact HR
    unfold Start
    isplitr [Ho]
    · iapply (begin_dev m c)
      isplitl [Hmine]; · iexact Hmine
      isplitl [Hcr]; · iexact Hcr
      isplitl [Hg]; · iexact Hg
      iexact Hsc
    · iexact Ho
  iintro HE
  imod (exit_dev (m := m) (K := K) (Ks := Ks) c) $$ [HE] with HE
  · isplitr; · iexact HR
    iexact HE
  iapply (show iprop(|={Set.univ}=> (After m c ∗ oblig c 0)) ⊢ run c (pure ⟨⟩) (fun _ => iprop(After m c ∗ oblig c 0)) from by
    show _ ⊢ wp frame (wpE (defs₀ (F := F)) 𝒱₀ (c : Thread nD τ) none) Set.univ (Prog.ret PUnit.unit) _
    rw [wp_ret])
  imodintro
  iexact HE

theorem body_row : (defs₀ (F := F)) .tc cfg0.body (cfg0.bodyArgs t0_0 (cfg0.slots t0_0)) = bodySteps (F := F) :=
  (show (defs₀ (F := F)) .tc cfg0.body (cfg0.bodyArgs t0_0 (cfg0.slots t0_0)) = bodyAt0 (F := F) t0_0 from rfl).trans (body_eq t0_0)

/-- The body, as the launch states it. -/
theorem body_obligation (c : Dev nD) : Pipeline.BodyObligation (dats m 0 c) (defs₀ (F := F)) 𝒱₀ 0 Set.univ := fun t => by
  rw [fin_N0 t]
  refine BIBase.Entails.trans (?_ : _ ⊢ iprop(Φ₀ m c ∗ oblig c (owe0 c))) ((sound m c).trans ?_)
  · show iprop(Φ₀ m c ∗ (dats m 0 c).owesAt 0 t0_0.castSucc ∗ _) ⊢ _
    unfold Pipeline.Dat.owesAt Pipeline.owesWithin oblig
    rw [show (dats m 0 c).owed t0_0.castSucc = owe0 c from rfl]
    iintro ⟨HΦ, ⟨%W, -, HO⟩, -⟩
    isplitl [HΦ]; · iexact HΦ
    iexists W; iexact HO
  · rw [body_row]
    generalize bodySteps (F := F) = p
    refine wp_mono _ _ _ (fun _ => ?_)
    unfold Pipeline.Dat.owesAt Pipeline.owesWithin oblig
    rw [show (dats m 0 c).owed t0_0.succ = 0 from rfl, show (dats m 0 c).Φ t0_0.succ = After m c from rfl]
    iintro ⟨HA, ⟨%W, HO⟩⟩
    isplitl [HA]; · iexact HA
    isplitl [HO]
    · iexists W; isplitr; · ipureintro; exact fun _ _ => Or.inl trivial
      iexact HO
    · rw [Finset.univ_eq_empty, bigSep_empty]; iempintro

/-! ## The launch -/

theorem ownSemFacts : Pipeline.OwnSemFacts cfg0.spec osem := by decide

variable (ρ : Dev nD → PrngReg)

theorem start_intro (c : Dev nD) :
    iprop(Pipeline.unscopedRestP Pipeline.Prefetch.none cfg0.spec c (fun b => m ((c : Thread nD τ).loc b)) ∗ levAts L lv
        ∗ Pipeline.launchCred owe0 c ∗ prngReg c (ρ c) ∗ G' m c)
      ⊢ |={Set.univ}=> (iprop(start m c ∗ emp) : sProp 𝕄) := by
  rw [Pipeline.unscopedRestP_none, unscopedRest0_eq]
  iintro ⟨Hg, Hlev, Hcr, -, HG⟩
  ihave Hc := (credits_intro (F := F) c) $$ Hcr
  imodintro
  unfold start
  isplitl
  · isplitl [HG]; · iexact HG
    isplitl [Hlev]; · iexact Hlev
    isplitl [Hc]; · iexact Hc
    iexact Hg
  · iempintro

theorem begin_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem exit_intro (c : Dev nD) :
    (dats m 0 c).Φ (Fin.last cfg0.N) ⊢ iprop((arrays m c ∗ unscopedSems0 c) ∗ Pipeline.ownSems0 osem c ∗ Pipeline.scopedRest cfg0.spec c) := by
  rw [show (dats m 0 c).Φ (Fin.last cfg0.N) = After m c from rfl, scopedRest0_eq, ownSems0_eq, unscopedSems0_eq]
  unfold After; exact BI.Entails.refl _

/-- What the final state has on a device. -/
def Ends (c : Dev nD) (s : MemSt nD τ sig (Elt F)) : Prop :=
  (s.mem ((c : Thread nD τ).loc main_arg0) = m ((c : Thread nD τ).loc main_arg0) ∧ s.mem ((c : Thread nD τ).loc main_v1) = result m c)
    ∧ ∀ sm : SemLoc sig, sm.isScoped .tc = false → s.sem ((c.tc : Thread nD τ), sm) = 0

theorem ends_read (c : Dev nD) (s' : Phys nD τ sig (Elt F)) :
    iprop((arrays m c ∗ unscopedSems0 c) ∗ emp ∗ SI s') ⊢ |={Set.univ}=> (iprop(⌜Ends m c s'.mem⌝ ∗ SI s') : sProp 𝕄) := by
  unfold arrays
  iintro ⟨⟨⟨Hx, Ho⟩, Hu⟩, -, HSI⟩
  icombine HSI Hx gives %hx
  icombine HSI Ho gives %ho
  imod (Pipeline.unscopedSems0_read (X := unscopedSems0 c) (c := c) fupd_intro s') $$ [Hu HSI] with ⟨%hs, HSI⟩
  · isplitl [Hu] <;> iassumption
  imodintro
  isplitr
  · ipureintro; exact ⟨⟨funext fun i => hx i (Finset.mem_univ i), funext fun i => ho i (Finset.mem_univ i)⟩, hs⟩
  iexact HSI

set_option maxRecDepth 100000 in
/-- Every run from counters at zero ends; then the argument is as it was, every device has its result, and every counter is
at zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_v1) = result m c) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := owe0) (howed₀ := fun _ => rfl) (howedN := fun _ => rfl)
    (L := L) (lv := lv) (hL := L_of_ne) (hwaits := fun c => Pipeline.cellsWaits_intro cfgs (dats m) 0 0 c fun w => w.elim0)
    (G := G m) (G' := G' m) (u₀ := u₀)
    (hu₀ := by
      unfold u₀
      iintro Hu
      ihave H := (ownU_pair _ _) $$ Hu
      icases H with ⟨HP, HX⟩
      imod (deal m) $$ HX with HG
      imodintro
      isplitl [HP]; · iexact HP
      iexact HG)
    (hglob := glob m)
    (hA := fun _ w => w.elim0) (hpf := fun _ k => k.elim0)
    (X := start m) (Y := fun c => iprop(arrays m c ∗ unscopedSems0 c)) (Z := fun _ => iprop(emp))
    (hX := start_intro m ρ) (hin := begin_intro m) (hout := exit_intro m)
    (QY := Ends m) (hY := ends_read m)
    (hQ := fun _ h hs => ⟨fun c => (h c).2.2.1, sem_eq_zero hs fun c => (h c).2.2.2⟩)

end Cert.ReduceProof

end
-- ==== Proof.Value.lean ====
/-
# The value

At exact arithmetic both programs end with the sum of the argument's two halves: the format changes are the identity there,
and the two orders of adding the halves agree.
-/
module

public import proofs.«01_k».proof.Proof.Gen.ReferenceIdeal.Run
public import proofs.«01_k».proof.Proof.Run
public import Idealize.ShloMosaic.PureOps.Ideal.Laws
public import Idealize.ShloMosaic.Lib.Layout
public import Idealize.ShloMosaic.Lib.Pointwise.Reshape

@[expose] public section

set_option maxRecDepth 8000

noncomputable section

namespace Cert.ReduceProof

open Idealize.ShloMosaic Idealize.ShloMosaic.TcCoe Idealize.SL.Sem
open Cert.KernelIdeal (nD τ sig main_arg0 S32768x1024)
open Cert.ReferenceIdeal (S65536x1024 S2x32768x1024 S_)

/-- The index of row `i` of half `b`. -/
def row (b : ℕ) (hb : b < 2) (i : S32768x1024.Idx) : S65536x1024.Idx
  | ⟨0, _⟩ => ⟨b * 32768 + (i (0 : Fin 2)).val, by
      have h : (i (0 : Fin 2)).val < 32768 := (i (0 : Fin 2)).isLt
      show b * 32768 + (i (0 : Fin 2)).val < 65536
      omega⟩
  | ⟨1, _⟩ => ⟨(i (1 : Fin 2)).val, (i (1 : Fin 2)).isLt⟩

/-- The sum of the two halves. -/
def halves (X : S65536x1024.Idx → EReal) (i : S32768x1024.Idx) : EReal := X (row 0 (by decide) i) + X (row 1 (by decide) i)

/-- A device's part is the half its first mesh coordinate names. -/
theorem part_eq (X : S65536x1024.Idx → EReal) (c : Fin 16) (i : S32768x1024.Idx) :
    Layout.blockN ⟨2, ![32768, 1024]⟩ ⟨2, ![65536, 1024]⟩ (Layout.meshBlock [2, 2, 4] ![[0], []] c) X (by decide) i
      = X (row (c.val / 8) (by omega) i) := by
  rw [Layout.blockN_apply]
  refine congrArg X (funext fun a => Fin.ext ?_)
  rw [Layout.TilesN.idx_val]
  have h0 : Layout.meshLin [2, 2, 4] c.val [0] = c.val / 8 := by
    show c.val / 8 % 2 * 1 + 0 = c.val / 8
    have := c.isLt; omega
  match a with
  | ⟨0, _⟩ =>
    show Layout.meshLin [2, 2, 4] c.val [0] * 32768 + (i (0 : Fin 2)).val = c.val / 8 * 32768 + (i (0 : Fin 2)).val
    rw [h0]
  | ⟨1, _⟩ =>
    show 0 * 1024 + (i (1 : Fin 2)).val = (i (1 : Fin 2)).val
    omega

variable (m : (ℓ : Loc nD τ sig) → Buf (Elt Ideal) ℓ)

/-- A device's argument, as the numbers it holds. -/
abbrev arg (c : Dev nD) : S32768x1024.Idx → EReal := m ((c : Thread nD τ).loc main_arg0)

theorem pairSum_ideal (c : Dev nD) (i : S32768x1024.Idx) : (pairSum m c i : EReal) = arg m c i + arg m (xp c) i := rfl

theorem halves_pair (X : S65536x1024.Idx → EReal)
    (h : ∀ c : Dev nD, arg m c = Layout.blockN ⟨2, ![32768, 1024]⟩ ⟨2, ![65536, 1024]⟩ (Layout.meshBlock [2, 2, 4] ![[0], []] c) X)
    (c : Dev nD) (i : S32768x1024.Idx) : (pairSum m c i : EReal) = halves X i := by
  have e (b b' : ℕ) (hb : b < 2) (hb' : b' < 2) (he : b = b') : X (row b hb i) = X (row b' hb' i) := by subst he; rfl
  rw [pairSum_ideal, h c, h (xp c), part_eq, part_eq]
  unfold halves
  have hc : c.val < 16 := c.isLt
  have hx : (xp c).val = (c.val + 8) % 16 := rfl
  by_cases h8 : c.val < 8
  · rw [e (c.val / 8) 0 (by omega) (by decide) (by omega), e ((xp c).val / 8) 1 (by omega) (by decide) (by omega)]
  · rw [e (c.val / 8) 1 (by omega) (by decide) (by omega), e ((xp c).val / 8) 0 (by omega) (by decide) (by omega), add_comm]

/-- The kernel's result on every device. -/
theorem result_ideal (X : S65536x1024.Idx → EReal)
    (h : ∀ c : Dev nD, arg m c = Layout.blockN ⟨2, ![32768, 1024]⟩ ⟨2, ![65536, 1024]⟩ (Layout.meshBlock [2, 2, 4] ![[0], []] c) X)
    (c : Dev nD) : (result m c : S32768x1024.Idx → EReal) = halves X := by
  funext i
  unfold result
  split
  · exact halves_pair m X h c i
  · exact halves_pair m X h (zp c) i

/-! ## The reference -/

theorem reduces0 : S2x32768x1024.Reduces [0] S32768x1024 := by decide

/-- The reshaped argument, at a half and a row. -/
theorem lift_row (b : Fin 2) (i : S32768x1024.Idx) :
    Shape.reshapeEquiv (s := S65536x1024) (s' := S2x32768x1024) Cert.ReferenceIdeal.Gen.shapeCasts_S65536x1024_S2x32768x1024 (reduces0.lift i b)
      = row b.val b.isLt i := by
  have h0 : (reduces0.lift i b (0 : Fin 3)).val = b.val := rfl
  have h1 : (reduces0.lift i b (1 : Fin 3)).val = (i (0 : Fin 2)).val := rfl
  have h2 : (reduces0.lift i b (2 : Fin 3)).val = (i (1 : Fin 2)).val := rfl
  refine Shape.reshapeEquiv_eq_of_vals _ _ _ _ _ (rowMajor_val2 _ 1024 rfl) (rowMajor_val3 _ 33554432 1024 rfl rfl) ?_
  rw [h0, h1, h2]
  show (b.val * 32768 + (i (0 : Fin 2)).val) * 1024 + (i (1 : Fin 2)).val = _
  omega

/-- The reference's result. -/
theorem reference_ideal (X : FVec Ideal S65536x1024 .f32) :
    (truncf .bf16 (Host.reduceAdd (F := Ideal) (shapeCast S2x32768x1024 X Cert.ReferenceIdeal.Gen.shapeCasts_S65536x1024_S2x32768x1024)
      (constant S_ .f32 0x00000000#32) Cert.ReferenceIdeal.Gen.reducesTo_S2x32768x1024_S32768x1024_d0 Cert.ReferenceIdeal.Gen.h_S_)
      Cert.ReferenceIdeal.Gen.bitsLt_bf16_f32 : S32768x1024.Idx → EReal) = halves X := by
  funext i
  show Ideal.hostReduceAdd Cert.ReferenceIdeal.Gen.reducesTo_S2x32768x1024_S32768x1024_d0
    (shapeCast S2x32768x1024 X Cert.ReferenceIdeal.Gen.shapeCasts_S65536x1024_S2x32768x1024) (Ideal.ofBits .f32 0x00000000#32) i = _
  rw [Ideal.hostReduceAdd_single _ reduces0, Ideal.ofBits_zero_f32, zero_add]
  show ∑ k : Fin 2, X (Shape.reshapeEquiv (s := S65536x1024) (s' := S2x32768x1024) Cert.ReferenceIdeal.Gen.shapeCasts_S65536x1024_S2x32768x1024 (reduces0.lift i k)) = _
  rw [Fin.sum_univ_two, lift_row, lift_row]
  rfl

end Cert.ReduceProof

end
-- ==== Proof.lean ====
/-
# The certificate

The kernel's run (Proof/Run.lean) gives both programs' frames; with the reference's run and the two values
(Proof/Value.lean) it gives the equality at exact arithmetic.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

set_option maxRecDepth 100000

noncomputable section

namespace Cert.Proof

open Idealize.ShloMosaic Idealize.ShloMosaic.TcCoe Idealize.SL.Sem Cert.ReduceProof

/-- The kernel at the machine's own floats. -/
theorem frame_kernel : Cert.quiescent_Kernel := fun m ρ _ =>
  (θ_run (Cert.KernelIdeal.defs (F := Bits)) _ _).mono (fun _ h => ⟨fun c => (h.1 c).1, h.2⟩) (run_main (F := Bits) m ρ)

/-- The kernel at exact arithmetic. -/
theorem frame_ideal : Cert.quiescent_KernelIdeal := fun m ρ _ =>
  (θ_run (Cert.KernelIdeal.defs (F := Ideal)) _ _).mono (fun _ h => ⟨fun c => (h.1 c).1, h.2⟩) (run_main (F := Ideal) m ρ)

/-- The reference. -/
theorem frame_reference : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- Every device's result is the reference's. -/
theorem algebraic : Cert.algebraic_KernelIdeal_ReferenceIdeal := fun m ρ m' ρ' _ hpart =>
  ⟨halves (m' (((0 : Dev Cert.ReferenceIdeal.nD).tc : Thread Cert.ReferenceIdeal.nD Cert.ReferenceIdeal.τ).loc Cert.ReferenceIdeal.main_arg0)),
    (θ_run (Cert.KernelIdeal.defs (F := Ideal)) _ _).mono
      (fun _ h c => ⟨(h.1 c).2.trans (result_ideal m _ hpart c), (h.1 c).1⟩) (run_main (F := Ideal) m ρ),
    (θ_run (Cert.ReferenceIdeal.defs (F := Ideal)) _ _).mono
      (fun _ h => ⟨(h 0).1.trans (reference_ideal _), (h 0).2⟩) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
